-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_scores_distinct [hPre_top_scores_distinct : Cert.Pre_top_scores_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_top_scores_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_scores_distinct [hPre_top_scores_distinct : Cert.Pre_top_scores_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_scores_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_top_scores_distinct [hKernelIdeal : Cert.KernelIdeal.Facts] [hPre_top_scores_distinct : Cert.Pre_top_scores_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_scores_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_top_scores_distinct [hReferenceIdeal : Cert.ReferenceIdeal.Facts] [hPre_top_scores_distinct : Cert.Pre_top_scores_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_scores_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_top_scores_distinct [hKernelIdeal : Cert.KernelIdeal.Facts] [hReferenceIdeal : Cert.ReferenceIdeal.Facts] [hPre_top_scores_distinct : Cert.Pre_top_scores_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_scores_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_top_scores_distinct : Cert.Pre_top_scores_distinct.Facts),
    quiescent_Kernel (hKernel := hKernel)
    ∧ quiescent_KernelIdeal (hKernelIdeal := hKernelIdeal)
    ∧ quiescent_KernelIdeal_pre_top_scores_distinct (hKernelIdeal := hKernelIdeal) (hPre_top_scores_distinct := hPre_top_scores_distinct)
    ∧ quiescent_ReferenceIdeal (hReferenceIdeal := hReferenceIdeal)
    ∧ quiescent_ReferenceIdeal_pre_top_scores_distinct (hReferenceIdeal := hReferenceIdeal) (hPre_top_scores_distinct := hPre_top_scores_distinct)
    ∧ preserves_Kernel_KernelIdeal
    ∧ algebraic_KernelIdeal_ReferenceIdeal_pre_top_scores_distinct (hKernelIdeal := hKernelIdeal) (hReferenceIdeal := hReferenceIdeal) (hPre_top_scores_distinct := hPre_top_scores_distinct)
-- ==== Pre_top_scores_distinct.lean ====
abbrev S1x2048x1024 : Shape := ⟨3, ![1, 2048, 1024]⟩
abbrev S1024x1024 : Shape := ⟨2, ![1024, 1024]⟩
abbrev S1x2048x16x64 : Shape := ⟨4, ![1, 2048, 16, 64]⟩
abbrev S1x16x2048x64 : Shape := ⟨4, ![1, 16, 2048, 64]⟩
abbrev S1x16x2048x2048 : Shape := ⟨4, ![1, 16, 2048, 2048]⟩
abbrev S_ : Shape := ⟨0, ![]⟩
abbrev S1x16x2048x16 : Shape := ⟨4, ![1, 16, 2048, 16]⟩
abbrev S1x16x2048x15 : Shape := ⟨4, ![1, 16, 2048, 15]⟩

class Facts : Prop where
  shapeCasts_S1x2048x1024_S1x2048x16x64 : S1x2048x1024.ShapeCasts S1x2048x16x64
  transposes_S1x2048x16x64_S1x16x2048x64_0_2_1_3 : S1x2048x16x64.Transposes [0, 2, 1, 3] S1x16x2048x64
  bcast_S_S1x16x2048x2048 : S_.BroadcastsInDim S1x16x2048x2048 (![] : Fin 0 → Fin S1x16x2048x2048.rank)
  sliceFits_S1x16x2048x2048_S1x16x2048x16 : S1x16x2048x2048.Slices (fun _ => 0) S1x16x2048x16
  slices_S1x16x2048x16_S1x16x2048x15_0_0_0_0 : S1x16x2048x16.Slices ![0, 0, 0, 0] S1x16x2048x15
  slices_S1x16x2048x16_S1x16x2048x15_0_0_0_1 : S1x16x2048x16.Slices ![0, 0, 0, 1] S1x16x2048x15
  bcast_S_S1x16x2048x15 : S_.BroadcastsInDim S1x16x2048x15 (![] : Fin 0 → Fin S1x16x2048x15.rank)
  reducesTo_S1x16x2048x15_S_d0_1_2_3 : S1x16x2048x15.ReducesTo [0, 1, 2, 3] S_
  h_S_ : 0 < S_.numel
  dot_S1x2048x1024_S1024x1024_S1x2048x1024_2_0_01_1_n_n_wf : DotDims.WF S1x2048x1024 S1024x1024 S1x2048x1024 [2] [0] [0, 1] [1] [] []
  dot_S1x16x2048x64_S1x16x2048x64_S1x16x2048x2048_3_3_2_2_01_01_wf : DotDims.WF S1x16x2048x64 S1x16x2048x64 S1x16x2048x2048 [3] [3] [2] [2] [0, 1] [0, 1]

variable [Facts]

def dot_S1x2048x1024_S1024x1024_S1x2048x1024_2_0_01_1_n_n : DotDims S1x2048x1024 S1024x1024 S1x2048x1024 where
  lhsContracting := [2]
  rhsContracting := [0]
  lhsNonContracting := [0, 1]
  rhsNonContracting := [1]
  lhsBatch := []
  rhsBatch := []
  wf := dot_S1x2048x1024_S1024x1024_S1x2048x1024_2_0_01_1_n_n_wf
def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def fn {F : FTy → Type} [FloatOps F] (main_arg0 : FVec F S1x2048x1024 .f32) (main_arg1 : FVec F S1x2048x1024 .f32) (main_arg2 : FVec F S1x2048x1024 .f32) (main_arg3 : FVec F S1024x1024 .f32) (main_arg4 : FVec F S1024x1024 .f32) (main_arg5 : FVec F S1024x1024 .f32) (main_arg6 : FVec F S1024x1024 .f32) : IVec S_ 1 :=
  let main_v0 : FVec F S1x2048x1024 .f32 := (fun l r => Host.dotGeneral dot_S1x2048x1024_S1024x1024_S1x2048x1024_2_0_01_1_n_n none l r) main_arg0 main_arg3
  let main_v1 : FVec F S1x2048x16x64 .f32 := shapeCast S1x2048x16x64 main_v0 shapeCasts_S1x2048x1024_S1x2048x16x64
  let main_v2 : FVec F S1x16x2048x64 .f32 := (transpose S1x16x2048x64 [0, 2, 1, 3] · transposes_S1x2048x16x64_S1x16x2048x64_0_2_1_3) main_v1
  let main_v3 : FVec F S1x2048x1024 .f32 := (fun l r => Host.dotGeneral dot_S1x2048x1024_S1024x1024_S1x2048x1024_2_0_01_1_n_n none l r) main_arg1 main_arg4
  let main_v4 : FVec F S1x2048x16x64 .f32 := shapeCast S1x2048x16x64 main_v3 shapeCasts_S1x2048x1024_S1x2048x16x64
  let main_v5 : FVec F S1x16x2048x64 .f32 := (transpose S1x16x2048x64 [0, 2, 1, 3] · transposes_S1x2048x16x64_S1x16x2048x64_0_2_1_3) main_v4
  let main_v6 : FVec F S1x16x2048x2048 .f32 := (fun l r => Host.dotGeneral dot_S1x16x2048x64_S1x16x2048x64_S1x16x2048x2048_3_3_2_2_01_01 none l r) main_v2 main_v5
  let main_cst : FVec F S_ .f32 := constant S_ .f32 0x42800000#32
  let main_v7 : FVec F S_ .f32 := Host.sqrt main_cst
  let main_v8 : FVec F S1x16x2048x2048 .f32 := broadcastInDim S1x16x2048x2048 ![] bcast_S_S1x16x2048x2048 main_v7
  let main_v9 : FVec F S1x16x2048x2048 .f32 := Host.divf main_v6 main_v8
  let main_values : FVec F S1x16x2048x16 .f32 := (fun x => (Host.topK S1x16x2048x16 3 (FloatOps.cmpfTotal .gt) x sliceFits_S1x16x2048x2048_S1x16x2048x16).1) main_v9
  let main_indices : IVec S1x16x2048x16 32 := (fun x => (Host.topK S1x16x2048x16 3 (FloatOps.cmpfTotal .gt) x sliceFits_S1x16x2048x2048_S1x16x2048x16).2) main_v9
  let main_v10 : FVec F S1x16x2048x15 .f32 := (extractStridedSlice S1x16x2048x15 ![0, 0, 0, 0] · slices_S1x16x2048x16_S1x16x2048x15_0_0_0_0) main_values
  let main_v11 : FVec F S1x16x2048x15 .f32 := (extractStridedSlice S1x16x2048x15 ![0, 0, 0, 1] · slices_S1x16x2048x16_S1x16x2048x15_0_0_0_1) main_values
  let main_v12 : IVec S1x16x2048x15 1 := cmpf .ogt main_v10 main_v11
  let main_cst_0 : FVec F S_ .f32 := constant S_ .f32 0xFF800000#32
  let main_v13 : FVec F S1x16x2048x15 .f32 := broadcastInDim S1x16x2048x15 ![] bcast_S_S1x16x2048x15 main_cst_0
  let main_v14 : IVec S1x16x2048x15 1 := cmpf .oeq main_v11 main_v13
  let main_v15 : IVec S1x16x2048x15 1 := ori main_v12 main_v14
  let main_c : IVec S_ 1 := constantI S_ 1 1#1
  let main_v16 : IVec S_ 1 := (fun x v => Host.reduce IntOp.andi x v reducesTo_S1x16x2048x15_S_d0_1_2_3 h_S_) main_v15 main_c
  main_v16
-- ==== Kernel.lean ====
abbrev S1x2048x1024 : Shape := ⟨3, ![1, 2048, 1024]⟩
abbrev S1024x1024 : Shape := ⟨2, ![1024, 1024]⟩
abbrev S2048x1024 : Shape := ⟨2, ![2048, 1024]⟩
abbrev S256x1024 : Shape := ⟨2, ![256, 1024]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S1x256x64 : Shape := ⟨3, ![1, 256, 64]⟩
abbrev S1x2048x64 : Shape := ⟨3, ![1, 2048, 64]⟩
abbrev S64x1024 : Shape := ⟨2, ![64, 1024]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x16x2048x2048 : Shape := ⟨4, ![1, 16, 2048, 2048]⟩

abbrev nBuf : Space → Nat
  | .hbm => 23
  | .vmem => 27
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x16x64, .f32⟩
  | .hbm, ⟨14, _⟩ => ⟨S16x2048x64, .f32⟩
  | .hbm, ⟨15, _⟩ => ⟨S2048x16x64, .f32⟩
  | .hbm, ⟨16, _⟩ => ⟨S16x2048x64, .f32⟩
  | .hbm, ⟨17, _⟩ => ⟨S2048x16x64, .f32⟩
  | .hbm, ⟨18, _⟩ => ⟨S16x2048x64, .f32⟩
  | .hbm, ⟨19, _⟩ => ⟨S16x2048x2048, .f32⟩
  | .hbm, ⟨20, _⟩ => ⟨S2048x1024, .f32⟩
  | .hbm, ⟨21, _⟩ => ⟨S1x2048x1024, .f32⟩
  | .hbm, ⟨22, _⟩ => ⟨S1x16x2048x2048, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1024x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x1024, .f32⟩
  | .local _ .vmem, ⟨13, _⟩ => ⟨S256x1024, .f32⟩
  | .local _ .vmem, ⟨14, _⟩ => ⟨S256x1024, .f32⟩
  | .local _ .vmem, ⟨15, _⟩ => ⟨S1x256x64, .f32⟩
  | .local _ .vmem, ⟨16, _⟩ => ⟨S1x256x64, .f32⟩
  | .local _ .vmem, ⟨17, _⟩ => ⟨S1x2048x64, .f32⟩
  | .local _ .vmem, ⟨18, _⟩ => ⟨S1x2048x64, .f32⟩
  | .local _ .vmem, ⟨19, _⟩ => ⟨S1x2048x64, .f32⟩
  | .local _ .vmem, ⟨20, _⟩ => ⟨S1x2048x64, .f32⟩
  | .local _ .vmem, ⟨21, _⟩ => ⟨S64x1024, .f32⟩
  | .local _ .vmem, ⟨22, _⟩ => ⟨S64x1024, .f32⟩
  | .local _ .vmem, ⟨23, _⟩ => ⟨S1x256x2048, .f32⟩
  | .local _ .vmem, ⟨24, _⟩ => ⟨S1x256x2048, .f32⟩
  | .local _ .vmem, ⟨25, _⟩ => ⟨S256x1024, .f32⟩
  | .local _ .vmem, ⟨26, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc3_sem5_0 : DmaSem sig := 25
abbrev cc3_sem5_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 16], ![false, false]⟩

def k3_cond1 (i : grid3.Coords) : BitVec 1 :=
  let arg1 : BitVec 32 := BitVec.ofNat 32 (i 1).val
  let c0_i32 : BitVec 32 := 0#32
  let v117 : BitVec 1 := Scalar.cmpi .eq arg1 c0_i32
  let v118 : BitVec 32 := Scalar.extui v117
  let c0_i32_49 : BitVec 32 := 0#32
  let v119 : BitVec 1 := Scalar.cmpi .ne v118 c0_i32_49
  v119

def k3_cond2 (i : grid3.Coords) : BitVec 1 :=
  let arg1 : BitVec 32 := BitVec.ofNat 32 (i 1).val
  let c0_i32_50 : BitVec 32 := 0#32
  let v120 : BitVec 1 := Scalar.cmpi .ne arg1 c0_i32_50
  let v121 : BitVec 32 := Scalar.extui v120
  let c0_i32_51 : BitVec 32 := 0#32
  let v122 : BitVec 1 := Scalar.cmpi .ne v121 c0_i32_51
  v122

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x256x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S64x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1x256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]
-- ==== ReferenceIdeal.lean ====
abbrev S1x2048x1024 : Shape := ⟨3, ![1, 2048, 1024]⟩
abbrev S1024x1024 : Shape := ⟨2, ![1024, 1024]⟩
abbrev S1x2048x16x64 : Shape := ⟨4, ![1, 2048, 16, 64]⟩
abbrev S1x16x2048x64 : Shape := ⟨4, ![1, 16, 2048, 64]⟩
abbrev S1x16x2048x2048 : Shape := ⟨4, ![1, 16, 2048, 2048]⟩
abbrev S_ : Shape := ⟨0, ![]⟩
abbrev S1x16x2048x16 : Shape := ⟨4, ![1, 16, 2048, 16]⟩
abbrev S1x16x2048x1 : Shape := ⟨4, ![1, 16, 2048, 1]⟩
abbrev S1x16x2048 : Shape := ⟨3, ![1, 16, 2048]⟩

abbrev nBuf : Space → Nat
  | .hbm => 48
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x2048x1024, .f32⟩
  | .hbm, ⟨8, _⟩ => ⟨S1x2048x16x64, .f32⟩
  | .hbm, ⟨9, _⟩ => ⟨S1x16x2048x64, .f32⟩
  | .hbm, ⟨10, _⟩ => ⟨S1x2048x1024, .f32⟩
  | .hbm, ⟨11, _⟩ => ⟨S1x2048x16x64, .f32⟩
  | .hbm, ⟨12, _⟩ => ⟨S1x16x2048x64, .f32⟩
  | .hbm, ⟨13, _⟩ => ⟨S1x2048x1024, .f32⟩
  | .hbm, ⟨14, _⟩ => ⟨S1x2048x16x64, .f32⟩
  | .hbm, ⟨15, _⟩ => ⟨S1x16x2048x64, .f32⟩
  | .hbm, ⟨16, _⟩ => ⟨S1x16x2048x2048, .f32⟩
  | .hbm, ⟨17, _⟩ => ⟨S_, .f32⟩
  | .hbm, ⟨18, _⟩ => ⟨S_, .f32⟩
  | .hbm, ⟨19, _⟩ => ⟨S1x16x2048x2048, .f32⟩
  | .hbm, ⟨20, _⟩ => ⟨S1x16x2048x2048, .f32⟩
  | .hbm, ⟨21, _⟩ => ⟨S1x16x2048x16, .f32⟩
  | .hbm, ⟨22, _⟩ => ⟨S1x16x2048x16, .i32⟩
  | .hbm, ⟨23, _⟩ => ⟨S1x16x2048x1, .f32⟩
  | .hbm, ⟨24, _⟩ => ⟨S1x16x2048x2048, .f32⟩
  | .hbm, ⟨25, _⟩ => ⟨S1x16x2048x2048, .i1⟩
  | .hbm, ⟨26, _⟩ => ⟨S_, .f32⟩
  | .hbm, ⟨27, _⟩ => ⟨S_, .f32⟩
  | .hbm, ⟨28, _⟩ => ⟨S1x16x2048x2048, .f32⟩
  | .hbm, ⟨29, _⟩ => ⟨S1x16x2048x2048, .f32⟩
  | .hbm, ⟨30, _⟩ => ⟨S_, .f32⟩
  | .hbm, ⟨31, _⟩ => ⟨S1x16x2048, .f32⟩
  | .hbm, ⟨32, _⟩ => ⟨S_, .f32⟩
  | .hbm, ⟨33, _⟩ => ⟨S1x16x2048, .f32⟩
  | .hbm, ⟨34, _⟩ => ⟨S1x16x2048, .f32⟩
  | .hbm, ⟨35, _⟩ => ⟨S1x16x2048x1, .f32⟩
  | .hbm, ⟨36, _⟩ => ⟨S1x16x2048x2048, .f32⟩
  | .hbm, ⟨37, _⟩ => ⟨S1x16x2048x2048, .f32⟩
  | .hbm, ⟨38, _⟩ => ⟨S1x16x2048x2048, .f32⟩
  | .hbm, ⟨39, _⟩ => ⟨S_, .f32⟩
  | .hbm, ⟨40, _⟩ => ⟨S1x16x2048, .f32⟩
  | .hbm, ⟨41, _⟩ => ⟨S1x16x2048x1, .f32⟩
  | .hbm, ⟨42, _⟩ => ⟨S1x16x2048x2048, .f32⟩
  | .hbm, ⟨43, _⟩ => ⟨S1x16x2048x2048, .f32⟩
  | .hbm, ⟨44, _⟩ => ⟨S1x16x2048x64, .f32⟩
  | .hbm, ⟨45, _⟩ => ⟨S1x2048x16x64, .f32⟩
  | .hbm, ⟨46, _⟩ => ⟨S1x2048x1024, .f32⟩
  | .hbm, ⟨47, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Proof.Projections.lean ====
/- The three projection calls: the body's triple, once for all of them, and for each call the block each grid step reads,
   the proof data and the body obligation, at any entry contents `V` and any float interpretation `F`. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.WordCmp
public import Idealize.ShloMosaic.Lib.Claim

@[expose] public section

-- membership in a rectangle of these extents looks recursively along the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # What the three calls share: one body, run on a block of 256 rows and a whole weight -/

abbrev rRows : Rect S256x1024 := Rect.unit (s := S256x1024) ![0, 0] S256x1024.size inb_S256x1024_S256x1024_0_0
abbrev rWeight : Rect S1024x1024 := Rect.unit (s := S1024x1024) ![0, 0] S1024x1024.size inb_S1024x1024_S1024x1024_0_0

/-- What the body leaves in the output's staging buffer, from the two inputs' blocks: its one store. -/
def projOut (x0 : Vec F S256x1024 .f32) (x1 : Vec F S1024x1024 .f32) : Vec F S256x1024 .f32 :=
  View.canon [⟨rRows, k0_pay1 (View.ld x0 rRows) (View.ld x1 rWeight)⟩]

/-- That store covers the buffer. -/
theorem projOut_cover (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

set_option maxHeartbeats 1000000 in
/-- The body on whole staging memrefs, the inputs' at their read contents whatever the bound variable and the output's at
    anything, beside whatever else is held (`P`, `Q`): it ends with the inputs' as they were and the output's at `projOut`
    of them. -/
theorem proj_body (c : Dev nD) (i : grid0.Coords) (arg1 : Memref sig .tc .vmem S256x1024 .f32) (harg1 : arg1.IsWhole)
    (arg2 : Memref sig .tc .vmem S1024x1024 .f32) (harg2 : arg2.IsWhole) (arg3 : Memref sig .tc .vmem S256x1024 .f32) (harg3 : arg3.IsWhole)
    {T0 T1 T2 : Type} {b0 : T0 → Vec F S256x1024 .f32} {b1 : T1 → Vec F S1024x1024 .f32} (b2 : T2 → Vec F S256x1024 .f32)
    {x0 : Vec F S256x1024 .f32} {x1 : Vec F S1024x1024 .f32} {x2 : Vec F S256x1024 .f32}
    (h0 : ∀ d, b0 d = x0) (h1 : ∀ d, b1 d = x1) (h2 : x2 = projOut x0 x1) (P Q : sProp 𝕄) :
    iprop(P ∗ Q ∗ (∃ d, owns (c : Thread nD τ) arg1 fullShare (b0 d)) ∗ (∃ d, owns (c : Thread nD τ) arg2 fullShare (b1 d))
        ∗ (∃ d, owns (c : Thread nD τ) arg3 fullShare (b2 d)))
      ⊢ wp frame (wpE (defs₀ (F := F)) Variants.none c none) Set.univ (cc0__proj_kernel i arg1 harg1 arg2 harg2 arg3 harg3) fun _ =>
        iprop(P ∗ Q ∗ owns (c : Thread nD τ) arg1 fullShare x0 ∗ owns (c : Thread nD τ) arg2 fullShare x1
          ∗ owns (c : Thread nD τ) arg3 fullShare x2) := by
  simp only [h0, h1, h2]
  simp only [cc0__proj_kernel_eq_skeleton]; unfold cc0__proj_kernel_skel
  unfold owns
  iintro ⟨HP, HQ, ⟨%d0, %f0, %hf0, H0⟩, ⟨%d1, %f1, %hf1, H1⟩, ⟨%d2, %f2, -, H2⟩⟩
  subst hf0 hf1
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projOut_cover _)

/-! # The first call, at the entry contents `V` -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first call's proof data: the arrays as the call finds them; after the body each input's buffer at its block and
    the output's at `projOut` of them; the invariant keeps the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => projOut (iblk0 V c 0 t) (iblk0 V c 1 t)
  Φ _ := Pipeline.ΦA spec0 c
  q _ := fullShare
  owed _ := 0

/-- What the body leaves in the output's buffer. -/
theorem after0_2 (c : Dev nD) (t : Fin cfg0.N) : (dat0 V c).after 2 t = projOut (iblk0 V c 0 t) (iblk0 V c 1 t) := by dsimp only [dat0]

/-- The rows' staging buffer holds their block at every step. -/
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
/-- The weight's staging buffer holds the weight at every step, though it is fetched at the first alone. -/
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

/-- The body meets its obligation at every step. -/
theorem body_obligation0 (c : Dev nD) : BodyObligation (dat0 (F := F) V c) (defs₀ (F := F)) Variants.none () Set.univ := fun t => by
  rw [bigSep_W0, bigSep_W0]
  exact triple_restated (proj_body c (grid0.coords t) _ (hstage0_0 ((cfg0.slots t 0).cast nbuf0_0)) _ (hstage0_1 ((cfg0.slots t 1).cast nbuf0_1))
    _ (hstage0_2 ((cfg0.slots t 2).cast nbuf0_2)) ((dat0 V c).before 2 t) (before0_0 V c t) (before0_1 V c t) (after0_2 V c t)
    ((dat0 V c).Φ t.castSucc) ((dat0 V c).owesAt () t.castSucc)) rfl .rfl fun _ => .rfl

/-! # The second call, at the entry contents `V` -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second call's proof data: the arrays as the call finds them; after the body each input's buffer at its block and
    the output's at `projOut` of them; the invariant keeps the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => projOut (iblk1 V c 0 t) (iblk1 V c 1 t)
  Φ _ := Pipeline.ΦA spec1 c
  q _ := fullShare
  owed _ := 0

/-- What the body leaves in the output's buffer. -/
theorem after1_2 (c : Dev nD) (t : Fin cfg1.N) : (dat1 V c).after 2 t = projOut (iblk1 V c 0 t) (iblk1 V c 1 t) := by dsimp only [dat1]

/-- The rows' staging buffer holds their block at every step. -/
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
/-- The weight's staging buffer holds the weight at every step, though it is fetched at the first alone. -/
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

/-- The body meets its obligation at every step. -/
theorem body_obligation1 (c : Dev nD) : BodyObligation (dat1 (F := F) V c) (defs₀ (F := F)) Variants.none () Set.univ := fun t => by
  rw [bigSep_W1, bigSep_W1]
  exact triple_restated (proj_body c (grid1.coords t) _ (hstage1_0 ((cfg1.slots t 0).cast nbuf1_0)) _ (hstage1_1 ((cfg1.slots t 1).cast nbuf1_1))
    _ (hstage1_2 ((cfg1.slots t 2).cast nbuf1_2)) ((dat1 V c).before 2 t) (before1_0 V c t) (before1_1 V c t) (after1_2 V c t)
    ((dat1 V c).Φ t.castSucc) ((dat1 V c).owesAt () t.castSucc)) rfl .rfl fun _ => .rfl

/-! # The third call, at the entry contents `V` -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The third call's proof data: the arrays as the call finds them; after the body each input's buffer at its block and
    the output's at `projOut` of them; the invariant keeps the scoped rest and the generator register; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => projOut (iblk2 V c 0 t) (iblk2 V c 1 t)
  Φ _ := Pipeline.ΦA spec2 c
  q _ := fullShare
  owed _ := 0

/-- What the body leaves in the output's buffer. -/
theorem after2_2 (c : Dev nD) (t : Fin cfg2.N) : (dat2 V c).after 2 t = projOut (iblk2 V c 0 t) (iblk2 V c 1 t) := by dsimp only [dat2]

/-- The rows' staging buffer holds their block at every step. -/
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
/-- The weight's staging buffer holds the weight at every step, though it is fetched at the first alone. -/
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

/-- The body meets its obligation at every step. -/
theorem body_obligation2 (c : Dev nD) : BodyObligation (dat2 (F := F) V c) (defs₀ (F := F)) Variants.none () Set.univ := fun t => by
  rw [bigSep_W2, bigSep_W2]
  exact triple_restated (proj_body c (grid2.coords t) _ (hstage2_0 ((cfg2.slots t 0).cast nbuf2_0)) _ (hstage2_1 ((cfg2.slots t 1).cast nbuf2_1))
    _ (hstage2_2 ((cfg2.slots t 2).cast nbuf2_2)) ((dat2 V c).before 2 t) (before2_0 V c t) (before2_1 V c t) (after2_2 V c t)
    ((dat2 V c).Φ t.castSucc) ((dat2 V c).owesAt () t.castSucc)) rfl .rfl fun _ => .rfl

end Cert.Kernel.Run

end
-- ==== Proof.AttnBlocks.lean ====
/- The attention call: the block each grid step reads, which of the two cases (first head, later head) a step is
   in, where the second output's buffer still holds what the step before left, and the staging buffers. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.WordCmp
public import Idealize.ShloMosaic.Lib.Claim

@[expose] public section

-- membership in a rectangle of these extents looks recursively along the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's `scf.if` 0 (`k3_h1`), from the grid coordinates. -/
abbrev cond3_0 (i : grid3.Coords) : Prop := k3_cond1 i = 1#1
/-- It holds at the points ≡ 0 (mod 16). -/
theorem hcond3_0 : ∀ t : Fin cfg3.N, cond3_0 (grid3.coords t) ↔ t.val % 16 = 0 :=
  (fun t => by
    have ht : t.val < 128 := Nat.lt_of_lt_of_eq t.isLt N_3
    have e0 : (grid3.coords t 0).val = t.val / 16 % 8 := Pipeline.Grid.coords_val t 0 (by decide) rfl
    have e1 : (grid3.coords t 1).val = t.val / 1 % 16 := Pipeline.Grid.coords_val t 1 (by decide) rfl
    simp only [cond3_0, k3_cond1, e0, e1]
    word_cmp
   : ∀ t : Fin grid3.N, cond3_0 (grid3.coords t) ↔ t.val % 16 = 0)

/-- The condition of the body's `scf.if` 1 (`k3_h2`), from the grid coordinates. -/
abbrev cond3_1 (i : grid3.Coords) : Prop := k3_cond2 i = 1#1
/-- It holds at the points whose coordinates have 1 ≤ i1. -/
theorem hcond3_1 : ∀ t : Fin cfg3.N, cond3_1 (grid3.coords t) ↔ 1 ≤ t.val % 16 :=
  (fun t => by
    have ht : t.val < 128 := Nat.lt_of_lt_of_eq t.isLt N_3
    have e0 : (grid3.coords t 0).val = t.val / 16 % 8 := Pipeline.Grid.coords_val t 0 (by decide) rfl
    have e1 : (grid3.coords t 1).val = t.val / 1 % 16 := Pipeline.Grid.coords_val t 1 (by decide) rfl
    simp only [cond3_1, k3_cond2, e0, e1]
    word_cmp
   : ∀ t : Fin grid3.N, cond3_1 (grid3.coords t) ↔ 1 ≤ t.val % 16)

/-! ## Where the windows are idle -/

/-- Window 0 is never idle (an input). -/
theorem liveAt3_0 : ∀ t : Fin cfg3.N, cfg3.idle 0 (grid3.coords t) = false := fun _ => rfl
/-- Window 1 is never idle (an input). -/
theorem liveAt3_1 : ∀ t : Fin cfg3.N, cfg3.idle 1 (grid3.coords t) = false := fun _ => rfl
/-- Window 2 is never idle (an input). -/
theorem liveAt3_2 : ∀ t : Fin cfg3.N, cfg3.idle 2 (grid3.coords t) = false := fun _ => rfl
/-- Window 3 is never idle (an input). -/
theorem liveAt3_3 : ∀ t : Fin cfg3.N, cfg3.idle 3 (grid3.coords t) = false := fun _ => rfl
/-- Window 4 is never idle (an output stored at every point, under no condition). -/
theorem liveAt3_4 : ∀ t : Fin cfg3.N, cfg3.idle 4 (grid3.coords t) = false := fun _ => rfl
/-- Whether output 5's buffer is FRESH at each position `1 ‥ N` — holds nothing the body stored since the region's entry or the
    last write-back (written back at the point before, or idle there and fresh before it) —, as a bitmask,
    bit `n` for position `n + 1`; position 0 is fresh. It is so after every sixteenth step, where a row block ends. -/
def freshTab3_5 : ℕ → Bool
  | 0 => true
  | n + 1 => (0x80008000800080008000800080008000 : ℕ).testBit n
theorem freshTab3_5_step : ∀ t : Fin cfg3.N,
    freshTab3_5 (t.val + 1) = ((cfg3.win 5).flush t || (cfg3.idle 5 (cfg3.grid.coords t) && freshTab3_5 t.val)) := by decide +kernel
theorem fresh3_5_eq (t : Fin cfg3.N) : cfg3.fresh 5 t.val = freshTab3_5 t.val :=
  Pipeline.Cfg.fresh_tab cfg3 5 freshTab3_5 rfl freshTab3_5_step t.val (Nat.le_of_lt t.isLt)
/-- At the points of case A output 5 is live: the case stores into it. -/
theorem liveAt3_5_A : ∀ t : Fin cfg3.N, cond3_0 (grid3.coords t) → ¬cond3_1 (grid3.coords t) → cfg3.idle 5 (grid3.coords t) = false := by decide +kernel
/-- At the points of case B output 5 is live: the case stores into it. -/
theorem liveAt3_5_B : ∀ t : Fin cfg3.N, ¬cond3_0 (grid3.coords t) → cond3_1 (grid3.coords t) → cfg3.idle 5 (grid3.coords t) = false := by decide +kernel
/-- At the points of case B, which keeps output 5's prior contents (reads it before covering, or covers it in part), the
    window's buffer is not FRESH: something was stored into it since the region's entry or its last write-back, idle points
    between or not. -/
theorem notFresh3_5_B : ∀ t : Fin cfg3.N, ¬cond3_0 (grid3.coords t) → cond3_1 (grid3.coords t) → cfg3.fresh 5 t.val = false := by
  intro t; rw [fresh3_5_eq t]; revert t; decide +kernel

/-! ## The kernel body on any staging memrefs -/

/-- One staging buffer of output window 4, through which its contents are stated. -/
abbrev VO3_4 : View sig .tc .vmem S1x256x2048 .f32 := (Memref.whole cc3_stg4_0 : Memref sig .tc .vmem S1x256x2048 .f32).view
/-- One staging buffer of output window 5, through which its contents are stated. -/
abbrev VO3_5 : View sig .tc .vmem S256x1024 .f32 := (Memref.whole cc3_stg5_0 : Memref sig .tc .vmem S256x1024 .f32).view
/-- Each window's current staging memref at point `t`, and that it is whole. -/
abbrev ms3_0 (t : Fin cfg3.N) : Memref sig .tc .vmem S1x256x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x2048x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x2048x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x256x2048 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S256x1024 .f32 := win3_5.stage (cfg3.slots t 5)
abbrev hs3_5 (t : Fin cfg3.N) : (ms3_5 t).IsWhole := hstage3_5 ((cfg3.slots t 5).cast nbuf3_5)

end Cert.Kernel.Run

end
-- ==== Proof.AttnFirst.lean ====
/- The attention body at the first head of a row block, run on any staging buffers. -/
module

public import proofs.«01_k».proof.Proof.AttnBlocks

@[expose] public section

-- membership in a rectangle of these extents looks recursively along the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref, as pieces (last first) in case A (`scf.if` 0 taken, `scf.if` 1 not taken: points 0, 16, … 112: 8 of 128), with the
    proof that on whole staging memrefs — the inputs' at their contents, the other outputs' at
    anything, the body runs to the continuation holding the inputs' as they were,
    each output's buffer with its pieces written; each branch is decided by the case's hypotheses `hc·`. -/
noncomputable def kernelRun3_A (c : Dev nD) (i : grid3.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S64x1024 .f32) (harg5 : arg5.IsWhole) (arg6 : Memref sig .tc .vmem S1x256x2048 .f32) (harg6 : arg6.IsWhole) (arg7 : Memref sig .tc .vmem S256x1024 .f32) (harg7 : arg7.IsWhole) (hc0 : cond3_0 i) (hc1 : ¬cond3_1 i)
    (x0 : Vec F S1x256x64 .f32) (x1 : Vec F S1x2048x64 .f32) (x2 : Vec F S1x2048x64 .f32) (x3 : Vec F S64x1024 .f32) :
    Σ' (L4 : List (View.Piece (Elt F) S1x256x2048 .f32)), { L5 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc3__attn_kernel i arg2 harg2 arg3 harg3 arg4 harg4 arg5 harg5 arg6 harg6 arg7 harg7) K } := by
  refine ⟨?_, ?_, fun E K => ?run⟩
  case run =>
    simp only [cc3__attn_kernel_eq_skeleton]; unfold cc3__attn_kernel_skel
    simp only [k3_part1_eq_skeleton, k3_part2_eq_skeleton, k3_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.Kernel.Run

end
-- ==== Proof.AttnLater.lean ====
/- The attention body at a later head of a row block, run on any staging buffers. -/
module

public import proofs.«01_k».proof.Proof.AttnFirst

@[expose] public section

-- membership in a rectangle of these extents looks recursively along the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref, as pieces (last first) in case B (`scf.if` 0 not taken, `scf.if` 1 taken: points 1, 2, … 127: 120 of 128), with the
    proof that on whole staging memrefs — the inputs' at their contents, the outputs it reads before covering (5) at their running contents `xo·`, the other outputs' at
    anything, the body runs to the continuation holding the inputs' as they were,
    each output's buffer with its pieces written; each branch is decided by the case's hypotheses `hc·`. -/
noncomputable def kernelRun3_B (c : Dev nD) (i : grid3.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S64x1024 .f32) (harg5 : arg5.IsWhole) (arg6 : Memref sig .tc .vmem S1x256x2048 .f32) (harg6 : arg6.IsWhole) (arg7 : Memref sig .tc .vmem S256x1024 .f32) (harg7 : arg7.IsWhole) (hc0 : ¬cond3_0 i) (hc1 : cond3_1 i)
    (x0 : Vec F S1x256x64 .f32) (x1 : Vec F S1x2048x64 .f32) (x2 : Vec F S1x2048x64 .f32) (x3 : Vec F S64x1024 .f32) (xo5 : Vec F S256x1024 .f32) :
    Σ' (L4 : List (View.Piece (Elt F) S1x256x2048 .f32)), { L5 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc3__attn_kernel i arg2 harg2 arg3 harg3 arg4 harg4 arg5 harg5 arg6 harg6 arg7 harg7) K } := by
  refine ⟨?_, ?_, fun E K => ?run⟩
  case run =>
    simp only [cc3__attn_kernel_eq_skeleton]; unfold cc3__attn_kernel_skel
    simp only [k3_part1_eq_skeleton, k3_part2_eq_skeleton, k3_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.Kernel.Run

end
-- ==== Proof.AttnRegion.lean ====
/- The attention call as a whole: what its two outputs' buffers hold after each grid step, the proof data and the
   body obligation, at any entry contents `V` and any float interpretation `F`. -/
module

public import proofs.«01_k».proof.Proof.AttnLater

@[expose] public section

-- membership in a rectangle of these extents looks recursively along the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Case A's pieces for output 4 tile its block (one store of `S1x256x2048`), so they cover it. -/
theorem cover3_A_4 (c : Dev nD) (i : grid3.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S64x1024 .f32) (harg5 : arg5.IsWhole) (arg6 : Memref sig .tc .vmem S1x256x2048 .f32) (harg6 : arg6.IsWhole) (arg7 : Memref sig .tc .vmem S256x1024 .f32) (harg7 : arg7.IsWhole) (hc0 : cond3_0 i) (hc1 : ¬cond3_1 i)
    (x0 : Vec F S1x256x64 .f32) (x1 : Vec F S1x2048x64 .f32) (x2 : Vec F S1x2048x64 .f32) (x3 : Vec F S64x1024 .f32) (y : S1x256x2048.Idx) :
    ∃ pc ∈ (kernelRun3_A c i arg2 harg2 arg3 harg3 arg4 harg4 arg5 harg5 arg6 harg6 arg7 harg7 hc0 hc1 x0 x1 x2 x3).1, y ∈ pc.1.set :=
  View.cover_of_tiledL (kernelRun3_A c i arg2 harg2 arg3 harg3 arg4 harg4 arg5 harg5 arg6 harg6 arg7 harg7 hc0 hc1 x0 x1 x2 x3).1 S1x256x2048.size (by sl_kernel_rfl) y

/-- What case A leaves in output 4's staging buffer: its pieces read back over junk. -/
def out3_A_4 (c : Dev nD) (i : grid3.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S64x1024 .f32) (harg5 : arg5.IsWhole) (arg6 : Memref sig .tc .vmem S1x256x2048 .f32) (harg6 : arg6.IsWhole) (arg7 : Memref sig .tc .vmem S256x1024 .f32) (harg7 : arg7.IsWhole) (hc0 : cond3_0 i) (hc1 : ¬cond3_1 i)
    (x0 : Vec F S1x256x64 .f32) (x1 : Vec F S1x2048x64 .f32) (x2 : Vec F S1x2048x64 .f32) (x3 : Vec F S64x1024 .f32) : Vec F S1x256x2048 .f32 :=
  VO3_4.read (Elt F) (VO3_4.writes (Elt F) VO3_4.junk (kernelRun3_A c i arg2 harg2 arg3 harg3 arg4 harg4 arg5 harg5 arg6 harg6 arg7 harg7 hc0 hc1 x0 x1 x2 x3).1)

/-- Case A's pieces for output 5 tile its block (one store of `S256x1024`), so they cover it. -/
theorem cover3_A_5 (c : Dev nD) (i : grid3.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S64x1024 .f32) (harg5 : arg5.IsWhole) (arg6 : Memref sig .tc .vmem S1x256x2048 .f32) (harg6 : arg6.IsWhole) (arg7 : Memref sig .tc .vmem S256x1024 .f32) (harg7 : arg7.IsWhole) (hc0 : cond3_0 i) (hc1 : ¬cond3_1 i)
    (x0 : Vec F S1x256x64 .f32) (x1 : Vec F S1x2048x64 .f32) (x2 : Vec F S1x2048x64 .f32) (x3 : Vec F S64x1024 .f32) (y : S256x1024.Idx) :
    ∃ pc ∈ (kernelRun3_A c i arg2 harg2 arg3 harg3 arg4 harg4 arg5 harg5 arg6 harg6 arg7 harg7 hc0 hc1 x0 x1 x2 x3).2.1, y ∈ pc.1.set :=
  View.cover_of_tiledL (kernelRun3_A c i arg2 harg2 arg3 harg3 arg4 harg4 arg5 harg5 arg6 harg6 arg7 harg7 hc0 hc1 x0 x1 x2 x3).2.1 S256x1024.size (by sl_kernel_rfl) y

/-- What case A leaves in output 5's staging buffer: its pieces read back over junk. -/
def out3_A_5 (c : Dev nD) (i : grid3.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S64x1024 .f32) (harg5 : arg5.IsWhole) (arg6 : Memref sig .tc .vmem S1x256x2048 .f32) (harg6 : arg6.IsWhole) (arg7 : Memref sig .tc .vmem S256x1024 .f32) (harg7 : arg7.IsWhole) (hc0 : cond3_0 i) (hc1 : ¬cond3_1 i)
    (x0 : Vec F S1x256x64 .f32) (x1 : Vec F S1x2048x64 .f32) (x2 : Vec F S1x2048x64 .f32) (x3 : Vec F S64x1024 .f32) : Vec F S256x1024 .f32 :=
  VO3_5.read (Elt F) (VO3_5.writes (Elt F) VO3_5.junk (kernelRun3_A c i arg2 harg2 arg3 harg3 arg4 harg4 arg5 harg5 arg6 harg6 arg7 harg7 hc0 hc1 x0 x1 x2 x3).2.1)

/-- Case B's pieces for output 4 tile its block (one store of `S1x256x2048`), so they cover it. -/
theorem cover3_B_4 (c : Dev nD) (i : grid3.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S64x1024 .f32) (harg5 : arg5.IsWhole) (arg6 : Memref sig .tc .vmem S1x256x2048 .f32) (harg6 : arg6.IsWhole) (arg7 : Memref sig .tc .vmem S256x1024 .f32) (harg7 : arg7.IsWhole) (hc0 : ¬cond3_0 i) (hc1 : cond3_1 i)
    (x0 : Vec F S1x256x64 .f32) (x1 : Vec F S1x2048x64 .f32) (x2 : Vec F S1x2048x64 .f32) (x3 : Vec F S64x1024 .f32) (xo5 : Vec F S256x1024 .f32) (y : S1x256x2048.Idx) :
    ∃ pc ∈ (kernelRun3_B c i arg2 harg2 arg3 harg3 arg4 harg4 arg5 harg5 arg6 harg6 arg7 harg7 hc0 hc1 x0 x1 x2 x3 xo5).1, y ∈ pc.1.set :=
  View.cover_of_tiledL (kernelRun3_B c i arg2 harg2 arg3 harg3 arg4 harg4 arg5 harg5 arg6 harg6 arg7 harg7 hc0 hc1 x0 x1 x2 x3 xo5).1 S1x256x2048.size (by sl_kernel_rfl) y

/-- What case B leaves in output 4's staging buffer: its pieces read back over junk. -/
def out3_B_4 (c : Dev nD) (i : grid3.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S64x1024 .f32) (harg5 : arg5.IsWhole) (arg6 : Memref sig .tc .vmem S1x256x2048 .f32) (harg6 : arg6.IsWhole) (arg7 : Memref sig .tc .vmem S256x1024 .f32) (harg7 : arg7.IsWhole) (hc0 : ¬cond3_0 i) (hc1 : cond3_1 i)
    (x0 : Vec F S1x256x64 .f32) (x1 : Vec F S1x2048x64 .f32) (x2 : Vec F S1x2048x64 .f32) (x3 : Vec F S64x1024 .f32) (xo5 : Vec F S256x1024 .f32) : Vec F S1x256x2048 .f32 :=
  VO3_4.read (Elt F) (VO3_4.writes (Elt F) VO3_4.junk (kernelRun3_B c i arg2 harg2 arg3 harg3 arg4 harg4 arg5 harg5 arg6 harg6 arg7 harg7 hc0 hc1 x0 x1 x2 x3 xo5).1)

/-- Case B's pieces for output 5 tile its block (one store of `S256x1024`), so they cover it. -/
theorem cover3_B_5 (c : Dev nD) (i : grid3.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S64x1024 .f32) (harg5 : arg5.IsWhole) (arg6 : Memref sig .tc .vmem S1x256x2048 .f32) (harg6 : arg6.IsWhole) (arg7 : Memref sig .tc .vmem S256x1024 .f32) (harg7 : arg7.IsWhole) (hc0 : ¬cond3_0 i) (hc1 : cond3_1 i)
    (x0 : Vec F S1x256x64 .f32) (x1 : Vec F S1x2048x64 .f32) (x2 : Vec F S1x2048x64 .f32) (x3 : Vec F S64x1024 .f32) (xo5 : Vec F S256x1024 .f32) (y : S256x1024.Idx) :
    ∃ pc ∈ (kernelRun3_B c i arg2 harg2 arg3 harg3 arg4 harg4 arg5 harg5 arg6 harg6 arg7 harg7 hc0 hc1 x0 x1 x2 x3 xo5).2.1, y ∈ pc.1.set :=
  View.cover_of_tiledL (kernelRun3_B c i arg2 harg2 arg3 harg3 arg4 harg4 arg5 harg5 arg6 harg6 arg7 harg7 hc0 hc1 x0 x1 x2 x3 xo5).2.1 S256x1024.size (by sl_kernel_rfl) y

/-- What case B leaves in output 5's staging buffer: its pieces read back over junk. -/
def out3_B_5 (c : Dev nD) (i : grid3.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S64x1024 .f32) (harg5 : arg5.IsWhole) (arg6 : Memref sig .tc .vmem S1x256x2048 .f32) (harg6 : arg6.IsWhole) (arg7 : Memref sig .tc .vmem S256x1024 .f32) (harg7 : arg7.IsWhole) (hc0 : ¬cond3_0 i) (hc1 : cond3_1 i)
    (x0 : Vec F S1x256x64 .f32) (x1 : Vec F S1x2048x64 .f32) (x2 : Vec F S1x2048x64 .f32) (x3 : Vec F S64x1024 .f32) (xo5 : Vec F S256x1024 .f32) : Vec F S256x1024 .f32 :=
  VO3_5.read (Elt F) (VO3_5.writes (Elt F) VO3_5.junk (kernelRun3_B c i arg2 harg2 arg3 harg3 arg4 harg4 arg5 harg5 arg6 harg6 arg7 harg7 hc0 hc1 x0 x1 x2 x3 xo5).2.1)

/-! ## What the outputs hold after each point -/

/-- What the outputs' staging buffers hold after the body at position `n` (a tuple, in window order):
    the case the closed forms select at `n`, run at the point's memrefs and input blocks, an output it reads before covering
    at what this leaves at `n - 1` (its buffer is not written back between: `before3_W_κ`); an output it leaves idle whose contents another case keeps stays
    what this leaves at `n - 1`, carried. An assignment of the conditions no point meets is no case (`False.elim`). -/
def outsAt3 (c : Dev nD) : (n : ℕ) → n < cfg3.N → Vec F S1x256x2048 .f32 × Vec F S256x1024 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩))
  | n + 1, hn =>
    if h0 : (n + 1) % 16 = 0 then
      if h1 : 1 ≤ (n + 1) % 16 then
        False.elim (by have hN : n + 1 < 128 := lt_of_lt_of_eq hn (show cfg3.N = 128 from N_3); omega)
      else
        (out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩))
    else
      if h1 : 1 ≤ (n + 1) % 16 then
        (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)
      else
        False.elim (by have hN : n + 1 < 128 := lt_of_lt_of_eq hn (show cfg3.N = 128 from N_3); omega)

/-- `outsAt3` at a point of case A: that case's contents. -/
theorem outsAt3_A (c : Dev nD) (t : Fin cfg3.N) (h0 : t.val % 16 = 0) (h1 : ¬1 ≤ t.val % 16) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (fun h => h1 ((hcond3_1 t).mp h)) (iblk3 V c 0 t) (iblk3 V c 1 t) (iblk3 V c 2 t) (iblk3 V c 3 t), out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (fun h => h1 ((hcond3_1 t).mp h)) (iblk3 V c 0 t) (iblk3 V c 1 t) (iblk3 V c 2 t) (iblk3 V c 3 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 16 = 0) (h1 : 1 ≤ t.val % 16) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2, out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt3`; the invariant
    keeps the scoped rest and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
    | ⟨5, _⟩ => (outsAt3 V c t.val t.isLt).2
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]
theorem after3_5 (c : Dev nD) (t : Fin cfg3.N) : (dat3 V c).after 5 t = (outsAt3 V c t.val t.isLt).2 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- Output 5's contents CARRY through the points that leave it idle: at such a point, its buffer not fresh, the proof data's
    `after` is the point before's (the case there stores nothing into the window and its term says so; a case that stores
    into it is not idle there by `liveAt3_5_κ`). -/
theorem hcarry3_5 (c : Dev nD) : ∀ (t : Fin cfg3.N) (_ : t.val ≠ 0), cfg3.idle 5 (grid3.coords t) = true → cfg3.fresh 5 t.val = false →
    (dat3 V c).after 5 t = (dat3 V c).after 5 ⟨t.val - 1, by omega⟩ := by
  intro t _ hi _
  have hN : t.val < 128 := lt_of_lt_of_eq t.isLt (show cfg3.N = 128 from N_3)
  rw [after3_5, after3_5]
  by_cases h0 : t.val % 16 = 0
  · by_cases h1 : 1 ≤ t.val % 16
    · exfalso; omega
    · rw [liveAt3_5_A t ((hcond3_0 t).mpr h0) (fun h => h1 ((hcond3_1 t).mp h))] at hi
      exact absurd hi Bool.false_ne_true
  · by_cases h1 : 1 ≤ t.val % 16
    · rw [liveAt3_5_B t (fun h => h0 ((hcond3_0 t).mp h)) ((hcond3_1 t).mpr h1)] at hi
      exact absurd hi Bool.false_ne_true
    · exfalso; omega
/-- At a point of case B output 5's current staging buffer holds what the point before left: the buffer is not fresh
    there (`notFresh3_5_B`: stored into since the region's entry or the last write-back, carried through the points that
    leave it idle by `hcarry3_5`). -/
theorem before3_5_B (c : Dev nD) (t : Fin cfg3.N) (h0 : ¬t.val % 16 = 0) (h1 : 1 ≤ t.val % 16) (d) :
    (dat3 V c).before 5 t d = (outsAt3 V c (t.val - 1) (Nat.lt_of_le_of_lt (Nat.sub_le _ _) t.isLt)).2 := by
  rw [Dat.before_out_traj _ 5 rfl (fun _ _ => rfl) (hcarry3_5 V c) t.val t rfl d,
    if_neg (by rw [notFresh3_5_B t (fun h => h0 ((hcond3_0 t).mp h)) ((hcond3_1 t).mpr h1)]; exact Bool.false_ne_true)]
  dsimp only [dat3]

/-! ## The body obligation, at a generic point -/

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 800000 in
/-- The body at any point: the inputs' memrefs hold their blocks (`before3_W`); the closed forms say which case the point is in (`by_cases`), an output the case reads before covering holds what the point before left (`before3_W_κ`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl]
  have hN : t.val < 128 := lt_of_lt_of_eq t.isLt (show cfg3.N = 128 from N_3)
  by_cases h0 : t.val % 16 = 0
  · by_cases h1 : 1 ≤ t.val % 16
    · exfalso; omega
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5_A t ((hcond3_0 t).mpr h0) (fun h => h1 ((hcond3_1 t).mp h))], after3_5]
      rw [outsAt3_A V c t h0 h1]
      unfold out3_A_4 out3_A_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t)).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_A_4 c _ _ _ _ _ _ _ _ _ _ _ _ _ _ _ _ _ _ _)
      unfold owns; iexists _; isplitr
      swap; · iexact H5
      ipureintro; exact View.read_writes_of_cover _ _ _ _ _ (cover3_A_5 c _ _ _ _ _ _ _ _ _ _ _ _ _ _ _ _ _ _ _)
  · by_cases h1 : 1 ≤ t.val % 16
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5_B t (fun h => h0 ((hcond3_0 t).mp h)) ((hcond3_1 t).mpr h1)], after3_5]
      rw [outsAt3_B V c t h0 h1]
      simp only [before3_5_B V c t h0 h1]
      unfold out3_B_4 out3_B_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ (fun h => h0 ((hcond3_0 t).mp h)) ((hcond3_1 t).mpr h1) (iblk3 V c 0 t) (iblk3 V c 1 t) (iblk3 V c 2 t) (iblk3 V c 3 t) _).2.2 Set.univ _)
      isplitl [H0]; · iexact H0
      isplitl [H1]; · iexact H1
      isplitl [H2]; · iexact H2
      isplitl [H3]; · iexact H3
      isplitl [H4]; · iexists _; iexact H4
      isplitl [H5]; · iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_B_4 c _ _ _ _ _ _ _ _ _ _ _ _ _ _ _ _ _ _ _ _)
      unfold owns; iexists _; isplitr
      swap; · iexact H5
      ipureintro; exact View.read_writes_of_cover _ _ _ _ _ (cover3_B_5 c _ _ _ _ _ _ _ _ _ _ _ _ _ _ _ _ _ _ _ _)
    · exfalso; omega

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The body obligation of the pipeline, at every point: the body's triple restated. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.Kernel.Run

end
-- ==== Proof.KernelRun.lean ====
/- The whole kernel: the buffer contents at every boundary between host operations and pallas_calls, and the run. -/
module

public import proofs.«01_k».proof.Proof.Projections
public import proofs.«01_k».proof.Proof.AttnRegion

@[expose] public section

-- membership in a rectangle of these extents looks recursively along the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays. -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays. -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays. -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v6, main_v7, main_v8, main_v9, main_v10, main_v11]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays. -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v13, main_v14]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays. -/
theorem hostOps4_args : ∀ a ∈ argRefs, a ∉ hostOps4_W := ListAll.forall_mem_of_all_decide (by decide +kernel)

/-! ## What a host stretch and a call leave, for any of them -/

/-- The buffers a call leaves, from those it finds (`W`): its arrays at what its proof data say after the last step, every
    other buffer as found. -/
def leaves {cfg : Cfg sig Λ₀} {c : Dev nD} (W : Valuation τ sig (Elt F)) (dat : Dat τ (Elt F) Unit ℕ (UR sig nD τ) ℕ cfg c) :
    Valuation τ sig (Elt F) :=
  Pipeline.withArrays cfg.spec c W fun w => dat.arrAt w cfg.N

/-- A call's array holds what its proof data say. -/
theorem leaves_arr {cfg : Cfg sig Λ₀} {c : Dev nD} (W : Valuation τ sig (Elt F)) (dat : Dat τ (Elt F) Unit ℕ (UR sig nD τ) ℕ cfg c)
    (hinj : Function.Injective (Pipeline.arrRef cfg.spec)) (w : Fin cfg.W) :
    leaves W dat (Proc.devRef .tc (Pipeline.arrRef cfg.spec w)) = dat.arrAt w cfg.N :=
  Pipeline.withArrays_arr cfg.spec hinj c _ _ w

/-- A buffer that is no array of the call is left as found. -/
theorem leaves_rest {cfg : Cfg sig Λ₀} {c : Dev nD} (W : Valuation τ sig (Elt F)) (dat : Dat τ (Elt F) Unit ℕ (UR sig nD τ) ℕ cfg c)
    (b : Ref sig .tc) (hb : ∀ w, Pipeline.arrRef cfg.spec w ≠ b) : leaves W dat (Proc.devRef .tc b) = W (Proc.devRef .tc b) :=
  Pipeline.withArrays_of_ne cfg.spec c _ _ b hb

/-- A buffer that is no output array of the call is left as found: an input array is never written back. -/
theorem leaves_of {cfg : Cfg sig Λ₀} {c : Dev nD} (W : Valuation τ sig (Elt F)) (dat : Dat τ (Elt F) Unit ℕ (UR sig nD τ) ℕ cfg c)
    (hinj : Function.Injective (Pipeline.arrRef cfg.spec)) (hA : ∀ w, dat.A w = W (Proc.devRef .tc (Pipeline.arrRef cfg.spec w)))
    (r : Ref sig .tc) (h : ∀ w : Fin cfg.W, Pipeline.arrRef cfg.spec w = r → (cfg.win w).isOut = false) :
    leaves W dat (Proc.devRef .tc r) = W (Proc.devRef .tc r) := by
  by_cases hw : ∃ w : Fin cfg.W, Pipeline.arrRef cfg.spec w = r
  · obtain ⟨w, rfl⟩ := hw
    exact (leaves_arr W dat hinj w).trans ((dat.arrAt_in w (h w rfl) _).trans (hA w))
  · exact leaves_rest W dat r fun w e => hw ⟨w, e⟩

/-! ## The buffer contents at each boundary, from the launch to the return. `W` reads a boundary's contents at any reference of a
    device, `V` at the TensorCore's. -/

/-- The buffers at launch. -/
abbrev W0 : Dev nD → Valuation τ sig (Elt F) := fun c b => (s₀ m ρ).mem ((c : Dev nD), b)
/-- The arguments are at launch what the memory holds. -/
theorem W0_args (c : Dev nD) : ∀ a ∈ argRefs, W0 m ρ c (Proc.devRef .tc a) = m ((c : Thread nD τ).loc a) := fun _ _ => rfl

/-- After host stretch 0: the first call's entry. -/
abbrev W1 : Dev nD → Valuation τ sig (Elt F) := fun c => StableHlo.after hostOps0 (W0 m ρ c)
/-- A reference host stretch 0 does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are still as launched. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b

/-- After the first call. -/
def W2 (c : Dev nD) : Valuation τ sig (Elt F) := leaves (W1 m ρ c) (dat0 (V1 m ρ) c)
/-- A reference that is no output array of the first call keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) :=
  leaves_of _ (dat0 (V1 m ρ) c) launch0.win.arr_inj (fun _ => rfl) r h
/-- Every argument among the first call's arrays is an input. -/
theorem argsIn0 : ∀ a ∈ argRefs, ∀ w : Fin cfg0.W, Pipeline.arrRef spec0 w = a → (cfg0.win w).isOut = false :=
  ListAll.forall_mem_of_all_decide (by decide +kernel)
/-- The arguments are still as launched. -/
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
/-- The first call's arrays hold afterwards what its proof data say. -/
theorem hF0 (c : Dev nD) (w : Fin cfg0.W) : (dat0 (V1 m ρ) c).arrAt w cfg0.N = V2 m ρ c (Pipeline.arrRef spec0 w) :=
  (leaves_arr _ (dat0 (V1 m ρ) c) launch0.win.arr_inj w).symm

/-- After host stretch 1: the second call's entry. -/
abbrev W3 : Dev nD → Valuation τ sig (Elt F) := fun c => StableHlo.after hostOps1 (W2 m ρ c)
/-- A reference host stretch 1 does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are still as launched. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b

/-- After the second call. -/
def W4 (c : Dev nD) : Valuation τ sig (Elt F) := leaves (W3 m ρ c) (dat1 (V3 m ρ) c)
/-- A reference that is no output array of the second call keeps its contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) :=
  leaves_of _ (dat1 (V3 m ρ) c) launch1.win.arr_inj (fun _ => rfl) r h
/-- Every argument among the second call's arrays is an input. -/
theorem argsIn1 : ∀ a ∈ argRefs, ∀ w : Fin cfg1.W, Pipeline.arrRef spec1 w = a → (cfg1.win w).isOut = false :=
  ListAll.forall_mem_of_all_decide (by decide +kernel)
/-- The arguments are still as launched. -/
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
/-- The second call's arrays hold afterwards what its proof data say. -/
theorem hF1 (c : Dev nD) (w : Fin cfg1.W) : (dat1 (V3 m ρ) c).arrAt w cfg1.N = V4 m ρ c (Pipeline.arrRef spec1 w) :=
  (leaves_arr _ (dat1 (V3 m ρ) c) launch1.win.arr_inj w).symm

/-- After host stretch 2: the third call's entry. -/
abbrev W5 : Dev nD → Valuation τ sig (Elt F) := fun c => StableHlo.after hostOps2 (W4 m ρ c)
/-- A reference host stretch 2 does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The arguments are still as launched. -/
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b

/-- After the third call. -/
def W6 (c : Dev nD) : Valuation τ sig (Elt F) := leaves (W5 m ρ c) (dat2 (V5 m ρ) c)
/-- A reference that is no output array of the third call keeps its contents across it. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) :=
  leaves_of _ (dat2 (V5 m ρ) c) launch2.win.arr_inj (fun _ => rfl) r h
/-- Every argument among the third call's arrays is an input. -/
theorem argsIn2 : ∀ a ∈ argRefs, ∀ w : Fin cfg2.W, Pipeline.arrRef spec2 w = a → (cfg2.win w).isOut = false :=
  ListAll.forall_mem_of_all_decide (by decide +kernel)
/-- The arguments are still as launched. -/
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
/-- The third call's arrays hold afterwards what its proof data say. -/
theorem hF2 (c : Dev nD) (w : Fin cfg2.W) : (dat2 (V5 m ρ) c).arrAt w cfg2.N = V6 m ρ c (Pipeline.arrRef spec2 w) :=
  (leaves_arr _ (dat2 (V5 m ρ) c) launch2.win.arr_inj w).symm

/-- After host stretch 3: the attention call's entry. -/
abbrev W7 : Dev nD → Valuation τ sig (Elt F) := fun c => StableHlo.after hostOps3 (W6 m ρ c)
/-- A reference host stretch 3 does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
/-- The arguments are still as launched. -/
theorem W7_args (c : Dev nD) : ∀ a ∈ argRefs, W7 m ρ c (Proc.devRef .tc a) = m ((c : Thread nD τ).loc a) :=
  fun a ha => (W7_of m ρ c a (hostOps3_args a ha)).trans (W6_args m ρ c a ha)
abbrev V7 : (c : Dev nD) → (b : Ref sig .tc) → Buf (Elt F) ((c : Thread nD τ).loc b) := fun c b => W7 m ρ c b

/-- After the attention call. -/
def W8 (c : Dev nD) : Valuation τ sig (Elt F) := leaves (W7 m ρ c) (dat3 (V7 m ρ) c)
/-- A reference that is no output array of the attention call keeps its contents across it. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) :=
  leaves_of _ (dat3 (V7 m ρ) c) launch3.win.arr_inj (fun _ => rfl) r h
/-- Every argument among the attention call's arrays is an input. -/
theorem argsIn3 : ∀ a ∈ argRefs, ∀ w : Fin cfg3.W, Pipeline.arrRef spec3 w = a → (cfg3.win w).isOut = false :=
  ListAll.forall_mem_of_all_decide (by decide +kernel)
/-- The arguments are still as launched. -/
theorem W8_args (c : Dev nD) : ∀ a ∈ argRefs, W8 m ρ c (Proc.devRef .tc a) = m ((c : Thread nD τ).loc a) :=
  fun a ha => (W8_of m ρ c a (argsIn3 a ha)).trans (W7_args m ρ c a ha)
abbrev V8 : (c : Dev nD) → (b : Ref sig .tc) → Buf (Elt F) ((c : Thread nD τ).loc b) := fun c b => W8 m ρ c b
/-- The attention call's arrays hold afterwards what its proof data say. -/
theorem hF3 (c : Dev nD) (w : Fin cfg3.W) : (dat3 (V7 m ρ) c).arrAt w cfg3.N = V8 m ρ c (Pipeline.arrRef spec3 w) :=
  (leaves_arr _ (dat3 (V7 m ρ) c) launch3.win.arr_inj w).symm

/-- After host stretch 4: the return. -/
abbrev W9 : Dev nD → Valuation τ sig (Elt F) := fun c => StableHlo.after hostOps4 (W8 m ρ c)
/-- A reference host stretch 4 does not write keeps its contents across it. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
/-- The arguments are still as launched. -/
theorem W9_args (c : Dev nD) : ∀ a ∈ argRefs, W9 m ρ c (Proc.devRef .tc a) = m ((c : Thread nD τ).loc a) :=
  fun a ha => (W9_of m ρ c a (hostOps4_args a ha)).trans (W8_args m ρ c a ha)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the regions'
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: the unscoped references from the contents `W` to what the operations leave, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- No argument array is scoped. -/
theorem args_unscoped : ∀ a ∈ argRefs, ¬ (Proc.devRef .tc a : DevRef τ sig).isScoped := ListAll.forall_mem_of_all_decide (by decide +kernel)
/-- The last thread state without the `owes`: every unscoped
    buffer at the last boundary's contents `W9`, the generator register at some state. -/
abbrev Tₙ (c : Dev nD) : sProp 𝕄 := iprop(StableHlo.held (c : Thread nD τ) (Pipeline.ucRefs τ sig) (W9 m ρ c) ∗ ∃ r, prngReg c r)

/-! ## The calls as segments -/

set_option backward.isDefEq.respectTransparency.types false in
/-- Call `p` as a segment, from buffers `W`: its arrays are split out of the unscoped buffers and put back at what the call
    leaves, the generator register goes into its invariant and comes out again, nothing is owed, and it has no semaphore of
    its own. Asked of its proof data: full shares, the arrays as in `W`, nothing owed and no wait excluded, the plain
    invariant, and the body's obligation. -/
def callSeg (p : Fin 4) (hl : Pipeline.LaunchFacts (nD := nD) (τ := τ) cfgs p) (W : Dev nD → Valuation τ sig (Elt F))
    (hbody : ∀ c, BodyObligation (pdats m ρ p c) (defs₀ (F := F)) Variants.none () Set.univ)
    (hq : ∀ c w, (pdats m ρ p c).q w = fullShare) (hA : ∀ c w, (pdats m ρ p c).A w = W c (Proc.devRef .tc (Pipeline.arrRef (cfgs p).spec w)))
    (hrec : ∀ c x, x ∈ (pdats m ρ p c).recorded 0) (howed : ∀ c t, (pdats m ρ p c).owed t = 0) (hΦ : ∀ c t, (pdats m ρ p c).Φ t = Pipeline.ΦA (cfgs p).spec c) :
    Pipeline.RegionSeg (pcfgs (F := F)) adm (pdats m ρ) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (leaves (W c) (pdats m ρ p c)) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    rw [Pipeline.ownSems0_none]
    have hsplit := Pipeline.arrays_of_unscopedBufs (p := p) (pcfgs (F := F)) adm (pdats m ρ) hl.win hl.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun x _ => Or.inl (hrec c x)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m ρ) ((pdats m ρ p c).share_full (hq c))
      (fun b => W c b) (fun b => leaves (W c) (pdats m ρ p c) b) ((pdats m ρ p c).arrAt · (cfgs p).N)
      (fun w => (leaves_arr (W c) (pdats m ρ p c) hl.win.arr_inj w).symm)
      (fun b hb => leaves_rest (W c) (pdats m ρ p c) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

/-- The first call as a segment. -/
def reg0 : Pipeline.RegionSeg (pcfgs (F := F)) adm (pdats m ρ) () defs₀ 𝒱₀ L lv 0 :=
  callSeg m ρ 0 launch0 (W1 m ρ) (body_obligation0 (V1 m ρ)) (fun _ _ => rfl) (fun _ _ => rfl) (fun _ _ => trivial) (fun _ _ => rfl) (fun _ _ => rfl)
/-- The second call as a segment. -/
def reg1 : Pipeline.RegionSeg (pcfgs (F := F)) adm (pdats m ρ) () defs₀ 𝒱₀ L lv 1 :=
  callSeg m ρ 1 launch1 (W3 m ρ) (body_obligation1 (V3 m ρ)) (fun _ _ => rfl) (fun _ _ => rfl) (fun _ _ => trivial) (fun _ _ => rfl) (fun _ _ => rfl)
/-- The third call as a segment. -/
def reg2 : Pipeline.RegionSeg (pcfgs (F := F)) adm (pdats m ρ) () defs₀ 𝒱₀ L lv 2 :=
  callSeg m ρ 2 launch2 (W5 m ρ) (body_obligation2 (V5 m ρ)) (fun _ _ => rfl) (fun _ _ => rfl) (fun _ _ => trivial) (fun _ _ => rfl) (fun _ _ => rfl)
/-- The attention call as a segment. -/
def reg3 : Pipeline.RegionSeg (pcfgs (F := F)) adm (pdats m ρ) () defs₀ 𝒱₀ L lv 3 :=
  callSeg m ρ 3 launch3 (W7 m ρ) (body_obligation3 (V7 m ρ)) (fun _ _ => rfl) (fun _ _ => rfl) (fun _ _ => trivial) (fun _ _ => rfl) (fun _ _ => rfl)

/-! ## @main as segments, and the launch -/

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: from any memory with zero counters every weakly fair execution of @main on the TensorCores terminates without
    fault, and at every final state each unscoped buffer holds the last boundary's contents `W9` and every semaphore
    counter reads zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W9 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨fun c b hb => h c b hb, funext fun g => hz g (.inr (no_unscoped g.2))⟩)

/-- A memory that agrees with the last boundary's contents on the unscoped buffers holds the arguments as launched. -/
theorem args_end (c : Dev nD) {mem : (ℓ : Loc nD τ sig) → Buf (Elt F) ℓ}
    (h : ∀ b ∈ Pipeline.ucRefs τ sig, mem (((c : Thread nD τ)).1, b) = W9 m ρ c b) (a : Ref sig .tc) (ha : a ∈ argRefs) :
    mem ((c : Thread nD τ).loc a) = m ((c : Thread nD τ).loc a) :=
  (h _ (mem_uc a (args_unscoped a ha))).trans (W9_args m ρ c a ha)

/-- The frame: the run terminates, every argument array ends as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    have k := args_end m ρ c (h.1 c)
    ⟨k main_arg0 (by decide), k main_arg1 (by decide), k main_arg2 (by decide), k main_arg3 (by decide), k main_arg4 (by decide),
      k main_arg5 (by decide), k main_arg6 (by decide)⟩, h.2⟩) (run m ρ)

/-- The run with the two result arrays named: they hold what the last boundary's contents say, the arguments unchanged. -/
theorem run_results : θ_run defs (onTc (τ := τ) (main (F := F))) ⟨m, fun _ => 0, ρ⟩ (fun r => ∀ c : Dev nD,
      r.2.mem ((c.tc : Thread nD τ).loc main_v13) = W9 m ρ c (Proc.devRef .tc main_v13)
      ∧ r.2.mem ((c.tc : Thread nD τ).loc main_v14) = W9 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    have k := args_end m ρ c (h.1 c)
    ⟨h.1 c _ (mem_uc main_v13 (by decide)), h.1 c _ (mem_uc main_v14 (by decide)),
      k main_arg0 (by decide), k main_arg1 (by decide), k main_arg2 (by decide), k main_arg3 (by decide), k main_arg4 (by decide),
      k main_arg5 (by decide), k main_arg6 (by decide)⟩) (run m ρ)

end Cert.Kernel.Run

end
-- ==== Proof.Transfer.lean ====
/- The kernel and its reading over the extended reals are one program: the tables and @main of the two agree by
   definition, so what is proved of the first at any float interpretation holds of the second. -/
module

public import proofs.«01_k».proof.Proof.Gen.Kernel
public import proofs.«01_k».proof.Proof.Gen.KernelIdeal
public import Idealize.ShloMosaic.Lib.Tactic

@[expose] public section

set_option maxRecDepth 16384

noncomputable section

namespace Cert.Transfer

open Idealize.ShloMosaic Idealize.ShloMosaic.Tactic Idealize.SL.Sem

variable {F : FTy → Type} [FloatOps F]

/-- The two programs' executions have the same meaning. -/
theorem θ_run_eq : θ_run (Cert.KernelIdeal.defs (F := F)) (onTc (τ := Cert.KernelIdeal.τ) (Cert.KernelIdeal.main (F := F)))
    = θ_run (Cert.Kernel.defs (F := F)) (onTc (τ := Cert.Kernel.τ) (Cert.Kernel.main (F := F))) := by sl_kernel_rfl

end Cert.Transfer

end
-- ==== Proof.ProjArray.lean ====
/- What each projection call leaves in its output array: the matrix product of its two operand arrays. -/
module

public import proofs.«01_k».proof.Proof.Projections
public import Idealize.ShloMosaic.Lib.Pipeline.ValueKit
public import Idealize.ShloMosaic.Lib.Pointwise

@[expose] public section

set_option maxRecDepth 16384

noncomputable section

namespace Cert.ProjArray

open Cert.Kernel Cert.Kernel.Gen Cert.Kernel.Run
open Idealize.ShloMosaic Idealize.ShloMosaic.TcCoe

variable (V : (c : Dev nD) → (b : Ref sig .tc) → Buf (Elt Ideal) ((c : Thread nD τ).loc b))

/-- The product of a matrix of 2048 rows with a square matrix. -/
def product (X : FVec Ideal S2048x1024 .f32) (W : FVec Ideal S1024x1024 .f32) : FVec Ideal S2048x1024 .f32 :=
  fun i => ∑ d : Fin 1024, X (ix2 (i 0) d) * W (ix2 d (i 1))

/-- What the body leaves in the output's buffer, at a row and a column: the row of the first block against the column of the
    second. -/
theorem projOut_apply (x0 : Vec Ideal S256x1024 .f32) (x1 : Vec Ideal S1024x1024 .f32) (i : Fin 256) (j : Fin 1024) :
    projOut x0 x1 (ix2 i j) = ∑ d : Fin 1024, x0 (ix2 i d) * x1 (ix2 d j) := by
  unfold projOut; frame_out
  pointwise [k0_pay1]

/-- The blocks of the first call at each grid step: 256 rows of the operand, the whole weight, 256 rows of the result. -/
theorem idx0 : ∀ t : Fin cfg0.N, win0_0.index t = ![t.val, 0] ∧ win0_1.index t = ![0, 0] ∧ win0_2.index t = ![t.val, 0] :=
  (by decide +kernel : ∀ t : Fin grid0.N, _)

/-- The first call's output array is the product of its operands. -/
theorem arr0 (c : Dev nD) : (dat0 V c).arrAt 2 cfg0.N = product (V c main_v0) (V c main_arg3) := by
  refine (dat0 V c).arrAt_eq_of_covers 2 _ (by decide +kernel) fun t _ y => ?_
  blk_simp
  idx_vars y
  rw [after0_2, projOut_apply]
  simp only [product]
  blk_point [iblk0, idx0 t]

/-- The blocks of the second call at each grid step: 256 rows of the operand, the whole weight, 256 rows of the result. -/
theorem idx1 : ∀ t : Fin cfg1.N, win1_0.index t = ![t.val, 0] ∧ win1_1.index t = ![0, 0] ∧ win1_2.index t = ![t.val, 0] :=
  (by decide +kernel : ∀ t : Fin grid1.N, _)

/-- The second call's output array is the product of its operands. -/
theorem arr1 (c : Dev nD) : (dat1 V c).arrAt 2 cfg1.N = product (V c main_v2) (V c main_arg4) := by
  refine (dat1 V c).arrAt_eq_of_covers 2 _ (by decide +kernel) fun t _ y => ?_
  blk_simp
  idx_vars y
  rw [after1_2, projOut_apply]
  simp only [product]
  blk_point [iblk1, idx1 t]

/-- The blocks of the third call at each grid step: 256 rows of the operand, the whole weight, 256 rows of the result. -/
theorem idx2 : ∀ t : Fin cfg2.N, win2_0.index t = ![t.val, 0] ∧ win2_1.index t = ![0, 0] ∧ win2_2.index t = ![t.val, 0] :=
  (by decide +kernel : ∀ t : Fin grid2.N, _)

/-- The third call's output array is the product of its operands. -/
theorem arr2 (c : Dev nD) : (dat2 V c).arrAt 2 cfg2.N = product (V c main_v4) (V c main_arg5) := by
  refine (dat2 V c).arrAt_eq_of_covers 2 _ (by decide +kernel) fun t _ y => ?_
  blk_simp
  idx_vars y
  rw [after2_2, projOut_apply]
  simp only [product]
  blk_point [iblk2, idx2 t]

end Cert.ProjArray

end
-- ==== Proof.Rows.lean ====
/- The mathematics of one row of scores: repeatedly blanking the largest entry, the sorted row, and the masked
   softmax. No program occurs here. -/
module

public import Idealize.ShloMosaic.PureOps.Ideal.Laws
public import Idealize.ShloMosaic.Lib.SortFacts

@[expose] public section

noncomputable section

namespace Cert.Rows

open Idealize.ShloMosaic

variable {n : ℕ}

/-- The largest entry of a row (−∞ for the empty row). -/
def rowMax (s : Fin n → EReal) : EReal := Finset.univ.fold max ⊥ s

/-- Every entry is at most the largest. -/
theorem le_rowMax (s : Fin n → EReal) (j : Fin n) : s j ≤ rowMax s :=
  Finset.le_sup (f := s) (Finset.mem_univ j)

/-- A bound on all entries bounds the largest. -/
theorem rowMax_le (s : Fin n → EReal) (b : EReal) (h : ∀ j, s j ≤ b) : rowMax s ≤ b :=
  Finset.sup_le (f := s) fun j _ => h j

/-- The row with every copy of its largest entry replaced by −∞. -/
def strip (s : Fin n → EReal) : Fin n → EReal := fun j => if s j = rowMax s then ⊥ else s j

/-- Let `σ` list the positions of a row from the largest entry down, and let each of the first `K` entries of that
    list be strictly above the next one, unless the next one is −∞. Then stripping `k ≤ K` times blanks exactly the
    first `k` listed positions, as far as the values are concerned. -/
theorem strip_iterate (s : Fin n → EReal) (σ : Fin n → Fin n) (hσ : Function.Surjective σ)
    (anti : ∀ a b : Fin n, a ≤ b → s (σ b) ≤ s (σ a)) (K : ℕ) (hK : K < n)
    (hd : ∀ a b : Fin n, a.val < K → b.val = a.val + 1 → s (σ b) < s (σ a) ∨ s (σ b) = ⊥) :
    ∀ k, k ≤ K → ∀ a : Fin n, strip^[k] s (σ a) = if a.val < k then ⊥ else s (σ a) := by
  intro k
  induction k with
  | zero => intro _ a; simp
  | succ k ih =>
    intro hk a
    have ih := ih (Nat.le_of_succ_le hk)
    have hkn : k < n := by omega
    have hmax : rowMax (strip^[k] s) = s (σ ⟨k, hkn⟩) := by
      apply le_antisymm
      · refine rowMax_le _ _ fun j => ?_
        obtain ⟨b, rfl⟩ := hσ j
        rw [ih b]
        split
        · exact bot_le
        · rename_i hb
          exact anti _ _ (by rw [Fin.le_def]; simpa using hb)
      · refine le_trans (le_of_eq ?_) (le_rowMax _ (σ ⟨k, hkn⟩))
        rw [ih]; simp
    rw [Function.iterate_succ_apply', strip, hmax, ih a]
    by_cases h1 : a.val < k
    · simp [h1, Nat.lt_succ_of_lt h1]
    · by_cases h2 : a.val = k
      · have ha : a = ⟨k, hkn⟩ := Fin.ext h2
        subst ha; simp
      · have h3 : ¬ a.val < k + 1 := by omega
        rw [if_neg h1, if_neg h3]
        split
        · rename_i he
          have hk1 : k + 1 < n := by have := a.isLt; omega
          have hle : s (σ a) ≤ s (σ ⟨k + 1, hk1⟩) := anti _ _ (by rw [Fin.le_def]; simp; omega)
          rcases hd ⟨k, hkn⟩ ⟨k + 1, hk1⟩ (by simpa using hk) rfl with h | h
          · exact absurd (he ▸ hle) (not_le.mpr h)
          · rw [h] at hle; exact (le_bot_iff.mp hle).symm
        · rfl

/-- Under the same hypotheses the largest entry after `K` strips is the `K`-th entry of the list. -/
theorem rowMax_strip_iterate (s : Fin n → EReal) (σ : Fin n → Fin n) (hσ : Function.Surjective σ)
    (anti : ∀ a b : Fin n, a ≤ b → s (σ b) ≤ s (σ a)) (K : ℕ) (hK : K < n)
    (hd : ∀ a b : Fin n, a.val < K → b.val = a.val + 1 → s (σ b) < s (σ a) ∨ s (σ b) = ⊥) :
    rowMax (strip^[K] s) = s (σ ⟨K, hK⟩) := by
  have h := strip_iterate s σ hσ anti K hK hd K le_rfl
  apply le_antisymm
  · refine rowMax_le _ _ fun j => ?_
    obtain ⟨b, rfl⟩ := hσ j
    rw [h b]
    split
    · exact bot_le
    · rename_i hb
      exact anti _ _ (by rw [Fin.le_def]; simpa using hb)
  · refine le_trans (le_of_eq ?_) (le_rowMax _ (σ ⟨K, hK⟩))
    rw [h]; simp

/-- The positions of a row from its largest entry down, equal entries in order of position. -/
def order (s : Fin n → EReal) : Fin n → Fin n := sortedFrom fun k k' => Ideal.cmpTotal .gt (s k) (s k') == 1#1

/-- Every position is listed. -/
theorem order_surjective (s : Fin n → EReal) : Function.Surjective (order s) := sortedFrom_surjective _

/-- The comparison's bit, as the order of the extended reals. -/
theorem before_eq (x y : EReal) : (Ideal.cmpTotal .gt x y == 1#1) = decide (y < x) := by
  show (BitVec.ofBool (decide (y < x)) == 1#1) = decide (y < x)
  cases decide (y < x) <;> rfl

/-- The listed entries do not increase. -/
theorem order_anti (s : Fin n → EReal) (a b : Fin n) (h : a ≤ b) : s (order s b) ≤ s (order s a) := by
  rcases eq_or_lt_of_le h with rfl | h
  · exact le_rfl
  · have e : order s = sortedFrom fun k k' => decide (s k' < s k) := by
      unfold order; congr 1; funext k k'; exact before_eq _ _
    have hs := sortedFrom_noInversion (fun k k' => decide (s k' < s k)) (fun k k' => decide (s k' < s k))
      (fun a b hab => by
        simp only [decide_eq_true_eq, decide_eq_false_iff_not, not_lt] at hab ⊢
        exact hab.le)
      (fun _ _ h => h)
      (fun a b c hab hbc => by
        simp only [decide_eq_false_iff_not, not_lt] at hab hbc ⊢
        exact hab.trans hbc) a b h
    rw [e]
    simpa only [decide_eq_false_iff_not, not_lt] using hs

/-- The unnormalised softmax weight of each entry, zero below the threshold `thr`. -/
def weights (thr : EReal) (s : Fin n → EReal) : Fin n → EReal :=
  fun j => if thr ≤ s j then Ideal.exp (s j - rowMax s) else 0

/-- The softmax of the row's entries that are at least the threshold. -/
def probs (thr : EReal) (s : Fin n → EReal) : Fin n → EReal :=
  fun j => Ideal.div (weights thr s j) (∑ k, weights thr s k)

/-- The row with the entries below the threshold replaced by −∞. -/
def masked (thr : EReal) (s : Fin n → EReal) : Fin n → EReal := fun j => if thr ≤ s j then s j else ⊥

/-- Masking keeps the largest entry when some entry reaches the threshold. -/
theorem rowMax_masked (thr : EReal) (s : Fin n → EReal) (a : Fin n) (ha : thr ≤ s a) :
    rowMax (masked thr s) = rowMax s := by
  apply le_antisymm
  · refine rowMax_le _ _ fun j => ?_
    unfold masked; split
    · exact le_rowMax s j
    · exact bot_le
  · refine rowMax_le _ _ fun j => ?_
    by_cases hj : thr ≤ s j
    · exact le_trans (le_of_eq (by unfold masked; rw [if_pos hj])) (le_rowMax (masked thr s) j)
    · exact le_trans ((not_le.mp hj).le.trans ha)
        (le_trans (le_of_eq (by unfold masked; rw [if_pos ha])) (le_rowMax (masked thr s) a))

/-- The softmax weights of the masked row are the thresholded weights: a masked entry contributes `e^(−∞) = 0`. -/
theorem exp_masked (thr : EReal) (s : Fin n → EReal) (a : Fin n) (ha : thr ≤ s a) (j : Fin n) :
    Ideal.exp (masked thr s j - rowMax (masked thr s)) = weights thr s j := by
  rw [rowMax_masked thr s a ha]
  unfold masked weights
  split
  · rfl
  · rw [EReal.bot_sub]; exact Ideal.exp_bot

end Cert.Rows

end
-- ==== Proof.Block.lean ====
/- The arithmetic of one grid step of the attention call, read at an index: the score block, the repeated
   blanking of each row's maximum, the attention probabilities and the block's contribution to the output. -/
module

public import proofs.«01_k».proof.Proof.Rows
public import proofs.«01_k».proof.Proof.Gen.Kernel.Skeleton
public import Idealize.ShloMosaic.Lib.Pipeline.ValueKit
public import Idealize.ShloMosaic.Lib.Pointwise

@[expose] public section

set_option maxRecDepth 16384

noncomputable section

namespace Cert.Block

open Cert.Kernel Cert.Kernel.Gen Cert.Rows
open Idealize.ShloMosaic

/-- The f32 pattern of −∞ denotes −∞. -/
theorem ofBits_bot : Ideal.ofBits .f32 0xFF800000#32 = ⊥ := by simp [Ideal.ofBits, Ideal.ieee]

/-- The f32 pattern of 0.125 denotes one eighth. -/
theorem ofBits_eighth : Ideal.ofBits .f32 0x3E000000#32 = (((1 : ℝ) / 8 : ℝ) : EReal) := by
  simp [Ideal.ofBits, Ideal.ieee, -EReal.coe_mul]; norm_num

/-- The f32 pattern of 64 denotes sixty-four. -/
theorem ofBits_sixtyfour : Ideal.ofBits .f32 0x42800000#32 = ((64 : ℝ) : EReal) := by
  simp [Ideal.ofBits, Ideal.ieee, -EReal.coe_mul]; norm_num

/-- The column of row maxima of a block. -/
def maxCol (w : FVec Ideal S256x2048 .f32) : FVec Ideal S256x1 .f32 :=
  shapeCast S256x1 (multiReduction .maximumf [1] S256 w 0xFF800000#32 reduces_S256x2048_S256 (.inl rfl) rfl) shapeCasts_S256_S256x1

/-- Each row's maximum, in the column of maxima. -/
theorem maxCol_apply (w : FVec Ideal S256x2048 .f32) (r : Fin 256) (z : Fin 1) :
    maxCol w (ix2 r z) = rowMax fun j : Fin 2048 => w (ix2 r j) := by
  unfold maxCol
  pointwise
  simp only [ofBits_bot]
  rfl

/-- The block with each row's maximum, wherever it occurs in the row, replaced by −∞. -/
def blank (w : FVec Ideal S256x2048 .f32) : FVec Ideal S256x2048 .f32 :=
  select (cmpf .oeq w (broadcastTo S256x2048 (maxCol w) broadcasts_S256x1_S256x2048)) (broadcast S256x2048 (Scalar.ofBits .f32 0xFF800000#32)) w

/-- Blanking works row by row. -/
theorem blank_apply (w : FVec Ideal S256x2048 .f32) (r : Fin 256) :
    (fun j : Fin 2048 => blank w (ix2 r j)) = strip fun j : Fin 2048 => w (ix2 r j) := by
  funext j
  unfold blank strip
  pointwise
  rw [maxCol_apply, ofBits_bot]

/-- Blanking a block `k` times strips each of its rows `k` times. -/
theorem blank_iterate_apply (w : FVec Ideal S256x2048 .f32) (r : Fin 256) (k : ℕ) :
    (fun j : Fin 2048 => blank^[k] w (ix2 r j)) = strip^[k] fun j : Fin 2048 => w (ix2 r j) := by
  induction k with
  | zero => rfl
  | succ k ih => rw [Function.iterate_succ_apply', Function.iterate_succ_apply', blank_apply, ih]

/-- The attention probabilities of a block of scores `s`, from the block `w` whose row maxima are the thresholds. -/
def probsBlock (s w : FVec Ideal S256x2048 .f32) : FVec Ideal S256x2048 .f32 :=
  have thr : FVec Ideal S256x2048 .f32 := broadcastTo S256x2048 (maxCol w) broadcasts_S256x1_S256x2048
  have mx : FVec Ideal S256x2048 .f32 := broadcastTo S256x2048 (maxCol s) broadcasts_S256x1_S256x2048
  have p : FVec Ideal S256x2048 .f32 := select (cmpf .oge s thr) (exp (subf s mx)) (broadcast S256x2048 (Scalar.ofBits .f32 0x00000000#32))
  divf p (broadcastTo S256x2048 (shapeCast S256x1 (multiReduction .add [1] S256 p 0x00000000#32 reduces_S256x2048_S256 (.inl rfl) rfl) shapeCasts_S256_S256x1) broadcasts_S256x1_S256x2048)

/-- Each row of the probabilities is the thresholded softmax of that row of scores. -/
theorem probsBlock_apply (s w : FVec Ideal S256x2048 .f32) (r : Fin 256) (j : Fin 2048) :
    probsBlock s w (ix2 r j)
      = probs (rowMax fun j : Fin 2048 => w (ix2 r j)) (fun j : Fin 2048 => s (ix2 r j)) j := by
  unfold probsBlock probs weights
  pointwise
  simp only [maxCol_apply]

/-- The step's probabilities: the scores with fifteen rounds of blanking, whose row maxima are the thresholds. -/
theorem pay9_eq (v0 : Vec Ideal S1x256x64 .f32) (v2 : Vec Ideal S1x2048x64 .f32) :
    k3_pay9 (F := Ideal) (k3_pay2 v0 v2) (k3_pay3 v0 v2) (k3_pay6 (k3_pay4 v0 v2) (k3_pay5 v0 v2))
        (k3_pay7 (k3_pay4 v0 v2) (k3_pay5 v0 v2)) k3_pay8
      = probsBlock (k3_pay2 v0 v2) (blank^[15] (k3_pay2 v0 v2)) := by
  simp only [Function.iterate_succ_apply', Function.iterate_zero, id]
  rfl

/-- The scores of a block: each row of `q` against each row of `k`, divided by eight. -/
theorem score_apply (v0 : Vec Ideal S1x256x64 .f32) (v2 : Vec Ideal S1x2048x64 .f32) (r : Fin 256) (j : Fin 2048) :
    k3_pay2 (F := Ideal) v0 v2 (ix2 r j)
      = (∑ e : Fin 64, v0 (ix3 0 r e) * v2 (ix3 0 j e)) * (((1 : ℝ) / 8 : ℝ) : EReal) := by
  unfold k3_pay2
  pointwise
  rw [ofBits_eighth]

/-- One row of a block of scores. -/
def scoreRow (v0 : Vec Ideal S1x256x64 .f32) (v2 : Vec Ideal S1x2048x64 .f32) (r : Fin 256) : Fin 2048 → EReal :=
  fun j => (∑ e : Fin 64, v0 (ix3 0 r e) * v2 (ix3 0 j e)) * (((1 : ℝ) / 8 : ℝ) : EReal)

/-- The probabilities of a row, the threshold found by fifteen strips. -/
def stripProbs (s : Fin 2048 → EReal) : Fin 2048 → EReal := probs (rowMax (strip^[15] s)) s

/-- The attention block that a step stores. -/
theorem attn_apply (v0 : Vec Ideal S1x256x64 .f32) (v2 : Vec Ideal S1x2048x64 .f32) (z : Fin 1) (r : Fin 256) (j : Fin 2048) :
    k3_pay10 (F := Ideal) (k3_pay2 v0 v2) (k3_pay3 v0 v2) (k3_pay6 (k3_pay4 v0 v2) (k3_pay5 v0 v2))
        (k3_pay7 (k3_pay4 v0 v2) (k3_pay5 v0 v2)) k3_pay8 (ix3 z r j)
      = stripProbs (scoreRow v0 v2 r) j := by
  unfold k3_pay10
  rw [pay9_eq]
  pointwise
  rw [probsBlock_apply, blank_iterate_apply]
  simp only [score_apply]
  rfl

/-- The contribution of a step to the output block. -/
theorem contrib_apply (v0 : Vec Ideal S1x256x64 .f32) (v2 v112 : Vec Ideal S1x2048x64 .f32) (v115 : Vec Ideal S64x1024 .f32)
    (r : Fin 256) (n : Fin 1024) :
    k3_pay11 (F := Ideal) (k3_pay2 v0 v2) (k3_pay3 v0 v2) (k3_pay6 (k3_pay4 v0 v2) (k3_pay5 v0 v2))
        (k3_pay7 (k3_pay4 v0 v2) (k3_pay5 v0 v2)) k3_pay8 v112 v115 (ix2 r n)
      = ∑ e : Fin 64, (∑ j : Fin 2048, stripProbs (scoreRow v0 v2 r) j * v112 (ix3 0 j e)) * v115 (ix2 e n) := by
  unfold k3_pay11
  rw [pay9_eq]
  pointwise
  simp only [probsBlock_apply, blank_iterate_apply, score_apply]
  rfl

/-- A later step adds its contribution to what the output block holds. -/
theorem add_apply (a b : FVec Ideal S256x1024 .f32) (r : Fin 256) (n : Fin 1024) :
    k3_pay1 (F := Ideal) a b (ix2 r n) = b (ix2 r n) + a (ix2 r n) := by
  unfold k3_pay1
  pointwise

end Cert.Block

end
-- ==== Proof.AttnStep.lean ====
/- What one grid step of the attention call leaves in its two output buffers, in terms of the blocks it reads. -/
module

public import proofs.«01_k».proof.Proof.AttnRegion
public import proofs.«01_k».proof.Proof.Block

@[expose] public section

set_option maxRecDepth 16384

noncomputable section

namespace Cert.AttnStep

open Cert.Kernel Cert.Kernel.Gen Cert.Kernel.Run
open Idealize.ShloMosaic Idealize.ShloMosaic.TcCoe

variable (V : (c : Dev nD) → (b : Ref sig .tc) → Buf (Elt Ideal) ((c : Thread nD τ).loc b))

/-- The block of attention probabilities a step computes from its query and key blocks. -/
def attnBlk (x0 : Vec Ideal S1x256x64 .f32) (x1 : Vec Ideal S1x2048x64 .f32) : FVec Ideal S1x256x2048 .f32 :=
  k3_pay10 (k3_pay2 x0 x1) (k3_pay3 x0 x1) (k3_pay6 (k3_pay4 x0 x1) (k3_pay5 x0 x1)) (k3_pay7 (k3_pay4 x0 x1) (k3_pay5 x0 x1)) k3_pay8

/-- The contribution to the output block a step computes from its four input blocks. -/
def contrib (x0 : Vec Ideal S1x256x64 .f32) (x1 x2 : Vec Ideal S1x2048x64 .f32) (x3 : Vec Ideal S64x1024 .f32) : FVec Ideal S256x1024 .f32 :=
  k3_pay11 (k3_pay2 x0 x1) (k3_pay3 x0 x1) (k3_pay6 (k3_pay4 x0 x1) (k3_pay5 x0 x1)) (k3_pay7 (k3_pay4 x0 x1) (k3_pay5 x0 x1)) k3_pay8 x2 x3

/-- Every step leaves its block of attention probabilities in the first output's buffer. -/
theorem attn_step (c : Dev nD) (t : Fin cfg3.N) :
    (outsAt3 V c t.val t.isLt).1 = attnBlk (iblk3 V c 0 t) (iblk3 V c 1 t) := by
  by_cases h : t.val % 16 = 0
  · rw [outsAt3_A V c t h (by omega)]; frame_out; rfl
  · rw [outsAt3_B V c t h (by omega)]; frame_out; rfl

/-- The first head's step leaves its contribution in the second output's buffer. -/
theorem out_first (c : Dev nD) (t : Fin cfg3.N) (h : t.val % 16 = 0) :
    (outsAt3 V c t.val t.isLt).2 = contrib (iblk3 V c 0 t) (iblk3 V c 1 t) (iblk3 V c 2 t) (iblk3 V c 3 t) := by
  rw [outsAt3_A V c t h (by omega)]; frame_out; rfl

/-- Every later head's step adds its contribution to what the step before it left there. -/
theorem out_later (c : Dev nD) (t : Fin cfg3.N) (h : ¬t.val % 16 = 0) :
    (outsAt3 V c t.val t.isLt).2 = k3_pay1 (contrib (iblk3 V c 0 t) (iblk3 V c 1 t) (iblk3 V c 2 t) (iblk3 V c 3 t))
      (outsAt3 V c (t.val - 1) (Nat.lt_of_le_of_lt (Nat.sub_le _ _) t.isLt)).2 := by
  rw [outsAt3_B V c t h (by omega)]; frame_out; rfl

end Cert.AttnStep

end
-- ==== Proof.Spec.lean ====
/- The attention layer written out over plain index functions: heads, scaled scores, and the output. -/
module

public import proofs.«01_k».proof.Proof.Rows

@[expose] public section

noncomputable section

namespace Cert.Spec

/-- Column `h * 64 + e` of a projected row is channel `e` of head `h`. -/
def lane (h : Fin 16) (e : Fin 64) : Fin 1024 := ⟨h.val * 64 + e.val, by omega⟩

/-- The heads of a projection: entry `e` of head `h` of row `i` of `X W`. -/
def heads (X : Fin 2048 → Fin 1024 → EReal) (W : Fin 1024 → Fin 1024 → EReal) (h : Fin 16) (i : Fin 2048) (e : Fin 64) : EReal :=
  ∑ d : Fin 1024, X i d * W d (lane h e)

/-- The scores of query `i` of head `h` against every key, scaled by one eighth. -/
def scores (q k : Fin 16 → Fin 2048 → Fin 64 → EReal) (h : Fin 16) (i j : Fin 2048) : EReal :=
  (∑ e : Fin 64, q h i e * k h j e) * (((1 : ℝ) / 8 : ℝ) : EReal)

/-- The output of the layer from the attention probabilities `p`, the value heads `u` and the output weight `Wo`. -/
def out (p : Fin 16 → Fin 2048 → Fin 2048 → EReal) (u : Fin 16 → Fin 2048 → Fin 64 → EReal) (Wo : Fin 1024 → Fin 1024 → EReal)
    (i : Fin 2048) (n : Fin 1024) : EReal :=
  ∑ h : Fin 16, ∑ e : Fin 64, (∑ j : Fin 2048, p h i j * u h j e) * Wo (lane h e) n

end Cert.Spec

end
-- ==== Proof.AttnArray.lean ====
/- What the attention call leaves in its two output arrays, as functions of its four operand arrays. -/
module

public import proofs.«01_k».proof.Proof.AttnStep
public import proofs.«01_k».proof.Proof.Spec

@[expose] public section

set_option maxRecDepth 16384

noncomputable section

namespace Cert.AttnArray

open Cert.Kernel Cert.Kernel.Gen Cert.Kernel.Run Cert.AttnStep Cert.Block
open Idealize.ShloMosaic Idealize.ShloMosaic.TcCoe

variable (V : (c : Dev nD) → (b : Ref sig .tc) → Buf (Elt Ideal) ((c : Thread nD τ).loc b))

/-- An array of heads as an index function. -/
abbrev rd (Q : FVec Ideal S16x2048x64 .f32) : Fin 16 → Fin 2048 → Fin 64 → EReal := fun h i e => Q (ix3 h i e)

/-- The scaled scores of query `i` of head `h` against every key of that head. -/
def headScores (Q K : FVec Ideal S16x2048x64 .f32) (h : Fin 16) (i : Fin 2048) : Fin 2048 → EReal :=
  Spec.scores (rd Q) (rd K) h i

/-- The attention probabilities of every head, query and key. -/
def attnOf (Q K : FVec Ideal S16x2048x64 .f32) : FVec Ideal S16x2048x2048 .f32 :=
  fun i => stripProbs (headScores Q K (i 0) (i 1)) (i 2)

/-- One head's contribution to the output at query `i` and output channel `n`. -/
def headOut (Q K U : FVec Ideal S16x2048x64 .f32) (Wo : FVec Ideal S1024x1024 .f32) (h : Fin 16) (i : Fin 2048) (n : Fin 1024) : EReal :=
  ∑ e : Fin 64, (∑ j : Fin 2048, stripProbs (headScores Q K h i) j * U (ix3 h j e)) * Wo (ix2 (Spec.lane h e) n)

/-- The output array: the contributions of the sixteen heads added up. -/
def outOf (Q K U : FVec Ideal S16x2048x64 .f32) (Wo : FVec Ideal S1024x1024 .f32) : FVec Ideal S2048x1024 .f32 :=
  fun i => ∑ h : Fin 16, headOut Q K U Wo h (i 0) (i 1)

/-- The blocks of the attention call at each grid step `t`: row block `t / 16`, head `t % 16`. -/
theorem idx3 : ∀ t : Fin cfg3.N, win3_0.index t = ![t.val % 16, t.val / 16, 0] ∧ win3_1.index t = ![t.val % 16, 0, 0] ∧
    win3_2.index t = ![t.val % 16, 0, 0] ∧ win3_3.index t = ![t.val % 16, 0] ∧
    win3_4.index t = ![t.val % 16, t.val / 16, 0] ∧ win3_5.index t = ![t.val / 16, 0] :=
  (by decide +kernel : ∀ t : Fin grid3.N, _)

/-- The output block is written back at the last head. -/
theorem flush5 : ∀ t : Fin cfg3.N, (cfg3.win 5).flush t = true ↔ t.val % 16 = 16 - 1 :=
  (by decide +kernel : ∀ t : Fin grid3.N, _)

/-- The scores of a step's block are the scores of its head at its rows. -/
theorem scores_blk (c : Dev nD) (t : Fin cfg3.N) (r : Fin 256) (h : Fin 16) (i : Fin 2048)
    (hh : h.val = t.val % 16) (hi : i.val = t.val / 16 * 256 + r.val) :
    scoreRow (iblk3 V c 0 t) (iblk3 V c 1 t) r = headScores (V c main_v7) (V c main_v9) h i := by
  funext j
  unfold scoreRow headScores Spec.scores rd
  blk_point [iblk3, idx3 t]

/-- The attention call's first output array. -/
theorem arr4 (c : Dev nD) : (dat3 V c).arrAt 4 cfg3.N = attnOf (V c main_v7) (V c main_v9) := by
  refine (dat3 V c).arrAt_eq_of_covers 4 _ (by decide +kernel) fun t _ y => ?_
  blk_simp
  rw [after3_4, attn_step]
  idx_vars y
  unfold attnBlk attnOf
  rw [attn_apply]
  have e0 : ((((cfg3.win 4).blk t).view.emb (ix3 y0 y1 y2)) 0).val = t.val % 16 := by blk_point [idx3 t]
  have e1 : ((((cfg3.win 4).blk t).view.emb (ix3 y0 y1 y2)) 1).val = t.val / 16 * 256 + y1.val := by blk_point [idx3 t]
  have e2 : ((((cfg3.win 4).blk t).view.emb (ix3 y0 y1 y2)) 2).val = y2.val := by blk_point [idx3 t]
  exact congr (congrArg stripProbs (scores_blk V c t y1 _ _ e0 e1)) (Fin.ext e2.symm)

/-- What a step adds to the output block. -/
theorem contrib_blk (c : Dev nD) (t : Fin cfg3.N) (r : Fin 256) (n : Fin 1024) (h : Fin 16) (i : Fin 2048)
    (hh : h.val = t.val % 16) (hi : i.val = t.val / 16 * 256 + r.val) :
    contrib (iblk3 V c 0 t) (iblk3 V c 1 t) (iblk3 V c 2 t) (iblk3 V c 3 t) (ix2 r n)
      = headOut (V c main_v7) (V c main_v9) (V c main_v11) (V c main_arg6) h i n := by
  unfold contrib headOut
  rw [contrib_apply, scores_blk V c t r h i hh hi]
  blk_point [iblk3, idx3 t]
  simp only [Spec.lane]; omega

/-- At the last head the output buffer holds the sixteen heads' contributions added up. -/
theorem acc5 (c : Dev nD) (t : Fin cfg3.N) (h : t.val % 16 = 16 - 1) (r : Fin 256) (n : Fin 1024) (i : Fin 2048)
    (hi : i.val = t.val / 16 * 256 + r.val) :
    (outsAt3 V c t.val t.isLt).2 (ix2 r n)
      = ∑ s : Fin 16, headOut (V c main_v7) (V c main_v9) (V c main_v11) (V c main_arg6) s i n := by
  rw [Pipeline.eq_sum_fin_of_reset_step_apply_of_flush (M := EReal) (fun n h => (outsAt3 V c n h).2) 16 (fun _ => 0)
    (fun t => contrib (iblk3 V c 0 t) (iblk3 V c 1 t) (iblk3 V c 2 t) (iblk3 V c 3 t)) ?_ ?_ t h, zero_add]
  · refine Finset.sum_congr rfl fun s _ => ?_
    exact contrib_blk V c _ r n s i (by dsimp only; omega) (hi.trans (by dsimp only; omega))
  · intro t h i
    simp only [out_first V c t h, zero_add]
  · intro t h i
    idx_vars i
    simp only [out_later V c t h, Block.add_apply]

/-- The attention call's second output array. -/
theorem arr5 (c : Dev nD) :
    (dat3 V c).arrAt 5 cfg3.N = outOf (V c main_v7) (V c main_v9) (V c main_v11) (V c main_arg6) := by
  refine (dat3 V c).arrAt_eq_of_covers 5 _ (by decide +kernel) fun t hf y => ?_
  blk_simp
  rw [after3_5]
  idx_vars y
  have e0 : ((((cfg3.win 5).blk t).view.emb (ix2 y0 y1)) 0).val = t.val / 16 * 256 + y0.val := by blk_point [idx3 t]
  have e1 : ((((cfg3.win 5).blk t).view.emb (ix2 y0 y1)) 1).val = y1.val := by blk_point [idx3 t]
  refine (acc5 V c t ((flush5 t).mp hf) y0 y1 _ e0).trans ?_
  refine Finset.sum_congr rfl fun s _ => ?_
  exact congrArg _ (Fin.ext e1.symm)

end Cert.AttnArray

end
-- ==== Proof.KernelValue.lean ====
/- The kernel's two results as functions of its seven argument arrays. -/
module

public import proofs.«01_k».proof.Proof.KernelRun
public import proofs.«01_k».proof.Proof.ProjArray
public import proofs.«01_k».proof.Proof.AttnArray

@[expose] public section

set_option maxRecDepth 16384

noncomputable section

namespace Cert.KernelValue

open Cert.Kernel Cert.Kernel.Gen Cert.Kernel.Run Cert.ProjArray Cert.AttnArray Cert.Block
open Idealize.ShloMosaic Idealize.ShloMosaic.TcCoe

variable (m : (ℓ : Loc nD τ sig) → Buf (Elt Ideal) ℓ) (ρ : Dev nD → PrngReg)

/-- A batch of one matrix as an index function. -/
abbrev rdX (X : FVec Ideal S1x2048x1024 .f32) : Fin 2048 → Fin 1024 → EReal := fun i d => X (ix3 0 i d)

/-- A weight matrix as an index function. -/
abbrev rdW (W : FVec Ideal S1024x1024 .f32) : Fin 1024 → Fin 1024 → EReal := fun d n => W (ix2 d n)

/-- A product of 1024 columns cut into sixteen heads of 64 columns, heads first. -/
def split (P : FVec Ideal S2048x1024 .f32) : FVec Ideal S16x2048x64 .f32 :=
  transpose S16x2048x64 [1, 0, 2] (shapeCast S2048x16x64 P shapeCasts_S2048x1024_S2048x16x64) transposes_S2048x16x64_S16x2048x64_1_0_2

/-- The heads of a product. -/
theorem split_product (X : FVec Ideal S1x2048x1024 .f32) (W : FVec Ideal S1024x1024 .f32) (h : Fin 16) (i : Fin 2048) (e : Fin 64) :
    split (product (shapeCast S2048x1024 X shapeCasts_S1x2048x1024_S2048x1024) W) (ix3 h i e) = Spec.heads (rdX X) (rdW W) h i e := by
  unfold split Spec.heads Spec.lane
  pointwise [product]

/-- After the first call its output array is the product of the batch with its weight. -/
theorem proj0 (c : Dev nD) : V2 m ρ c main_v1 = product (shapeCast S2048x1024 (m ((c : Thread nD τ).loc main_arg0)) shapeCasts_S1x2048x1024_S2048x1024) (m ((c : Thread nD τ).loc main_arg3)) := by
  rw [show V2 m ρ c main_v1 = _ from (hF0 m ρ c 2).symm, arr0,
    show V1 m ρ c main_arg3 = _ from W1_args m ρ c main_arg3 (by decide)]
  congr 1

/-- After the second call its output array is the product of the batch with its weight. -/
theorem proj1 (c : Dev nD) : V4 m ρ c main_v3 = product (shapeCast S2048x1024 (m ((c : Thread nD τ).loc main_arg1)) shapeCasts_S1x2048x1024_S2048x1024) (m ((c : Thread nD τ).loc main_arg4)) := by
  rw [show V4 m ρ c main_v3 = _ from (hF1 m ρ c 2).symm, arr1,
    show V3 m ρ c main_arg4 = _ from W3_args m ρ c main_arg4 (by decide),
    ← show V2 m ρ c main_arg1 = _ from W2_args m ρ c main_arg1 (by decide)]
  congr 1

/-- After the third call its output array is the product of the batch with its weight. -/
theorem proj2 (c : Dev nD) : V6 m ρ c main_v5 = product (shapeCast S2048x1024 (m ((c : Thread nD τ).loc main_arg2)) shapeCasts_S1x2048x1024_S2048x1024) (m ((c : Thread nD τ).loc main_arg5)) := by
  rw [show V6 m ρ c main_v5 = _ from (hF2 m ρ c 2).symm, arr2,
    show V5 m ρ c main_arg5 = _ from W5_args m ρ c main_arg5 (by decide),
    ← show V4 m ρ c main_arg2 = _ from W4_args m ρ c main_arg2 (by decide)]
  congr 1

/-- When the attention call starts the first product is still in its array. -/
theorem keep1 (c : Dev nD) : V6 m ρ c main_v1 = V2 m ρ c main_v1 :=
  ((W6_of m ρ c main_v1 (by decide +kernel)).trans ((W5_of m ρ c main_v1 (by decide)))).trans
    ((W4_of m ρ c main_v1 (by decide +kernel)).trans ((W3_of m ρ c main_v1 (by decide))))

/-- When the attention call starts the second product is still in its array. -/
theorem keep3 (c : Dev nD) : V6 m ρ c main_v3 = V4 m ρ c main_v3 :=
  (W6_of m ρ c main_v3 (by decide +kernel)).trans ((W5_of m ρ c main_v3 (by decide)))

/-- The query heads the attention call reads. -/
theorem heads7 (c : Dev nD) : rd (V7 m ρ c main_v7) = Spec.heads (rdX (m ((c : Thread nD τ).loc main_arg0))) (rdW (m ((c : Thread nD τ).loc main_arg3))) := by
  have e0 : StableHlo.after hostOps3 (W6 m ρ c) (Proc.devRef .tc main_v7) = split (W6 m ρ c (Proc.devRef .tc main_v1)) := by after_results; try rfl
  funext h i e
  rw [show V7 m ρ c main_v7 = _ from e0, show W6 m ρ c (Proc.devRef .tc main_v1) = _ from keep1 m ρ c, proj0]
  exact split_product _ _ h i e

/-- The key heads the attention call reads. -/
theorem heads9 (c : Dev nD) : rd (V7 m ρ c main_v9) = Spec.heads (rdX (m ((c : Thread nD τ).loc main_arg1))) (rdW (m ((c : Thread nD τ).loc main_arg4))) := by
  have e0 : StableHlo.after hostOps3 (W6 m ρ c) (Proc.devRef .tc main_v9) = split (W6 m ρ c (Proc.devRef .tc main_v3)) := by after_results; try rfl
  funext h i e
  rw [show V7 m ρ c main_v9 = _ from e0, show W6 m ρ c (Proc.devRef .tc main_v3) = _ from keep3 m ρ c, proj1]
  exact split_product _ _ h i e

/-- The value heads the attention call reads. -/
theorem heads11 (c : Dev nD) : rd (V7 m ρ c main_v11) = Spec.heads (rdX (m ((c : Thread nD τ).loc main_arg2))) (rdW (m ((c : Thread nD τ).loc main_arg5))) := by
  have e0 : StableHlo.after hostOps3 (W6 m ρ c) (Proc.devRef .tc main_v11) = split (W6 m ρ c (Proc.devRef .tc main_v5)) := by after_results; try rfl
  funext h i e
  rw [show V7 m ρ c main_v11 = _ from e0, show W6 m ρ c (Proc.devRef .tc main_v5) = _ from proj2 m ρ c]
  exact split_product _ _ h i e

/-- The scores of the layer, from the argument arrays. -/
def scoresOf (c : Dev nD) : Fin 16 → Fin 2048 → Fin 2048 → EReal :=
  Spec.scores (Spec.heads (rdX (m ((c : Thread nD τ).loc main_arg0))) (rdW (m ((c : Thread nD τ).loc main_arg3))))
    (Spec.heads (rdX (m ((c : Thread nD τ).loc main_arg1))) (rdW (m ((c : Thread nD τ).loc main_arg4))))

/-- A batch axis of length one in front of the attention array changes nothing. -/
theorem batch_attn (A : FVec Ideal S16x2048x2048 .f32) (z : Fin 1) (h : Fin 16) (i j : Fin 2048) :
    shapeCast S1x16x2048x2048 A shapeCasts_S16x2048x2048_S1x16x2048x2048 (ix4 z h i j) = A (ix3 h i j) := by pointwise

/-- A batch axis of length one in front of the output array changes nothing. -/
theorem batch_out (A : FVec Ideal S2048x1024 .f32) (z : Fin 1) (i : Fin 2048) (n : Fin 1024) :
    shapeCast S1x2048x1024 A shapeCasts_S2048x1024_S1x2048x1024 (ix3 z i n) = A (ix2 i n) := by pointwise

/-- The kernel's second result: the attention probabilities whose threshold is found by stripping. -/
theorem attn_value (c : Dev nD) (z : Fin 1) (h : Fin 16) (i j : Fin 2048) :
    W9 m ρ c (Proc.devRef .tc main_v14) (ix4 z h i j) = stripProbs (scoresOf m c h i) j := by
  have e : W9 m ρ c (Proc.devRef .tc main_v14) = shapeCast S1x16x2048x2048 (V8 m ρ c main_v12_0) shapeCasts_S16x2048x2048_S1x16x2048x2048 := by after_results; try rfl
  rw [e, show V8 m ρ c main_v12_0 = _ from (hF3 m ρ c 4).symm, arr4, batch_attn]
  unfold attnOf headScores
  rw [heads7, heads9]; rfl

/-- The kernel's first result: the output of the layer with those probabilities. -/
theorem out_value (c : Dev nD) (z : Fin 1) (i : Fin 2048) (n : Fin 1024) :
    W9 m ρ c (Proc.devRef .tc main_v13) (ix3 z i n) = Spec.out (fun h i j => stripProbs (scoresOf m c h i) j)
      (Spec.heads (rdX (m ((c : Thread nD τ).loc main_arg2))) (rdW (m ((c : Thread nD τ).loc main_arg5))))
      (rdW (m ((c : Thread nD τ).loc main_arg6))) i n := by
  have e : W9 m ρ c (Proc.devRef .tc main_v13) = shapeCast S1x2048x1024 (V8 m ρ c main_v12_1) shapeCasts_S2048x1024_S1x2048x1024 := by after_results; try rfl
  rw [e, show V8 m ρ c main_v12_1 = _ from (hF3 m ρ c 5).symm, arr5,
    show V7 m ρ c main_arg6 = _ from W7_args m ρ c main_arg6 (by decide), batch_out]
  unfold outOf headOut headScores
  rw [heads7, heads9, ← heads11 m ρ c]; rfl

end Cert.KernelValue

end
-- ==== Proof.RefTerms.lean ====
/- The reference's computation as a chain of named arrays, over the extended reals. -/
module

public import proofs.«01_k».proof.Proof.Gen.ReferenceIdeal.Run
public import Idealize.ShloMosaic.Lib.Pointwise

@[expose] public section

set_option maxRecDepth 16384

noncomputable section

namespace Cert.RefTerms

open Cert.ReferenceIdeal Cert.ReferenceIdeal.Gen Idealize.ShloMosaic Idealize.ShloMosaic.TcCoe

/-- A batch times a weight, cut into sixteen heads of 64 columns, heads before rows. -/
def headsArr (X : FVec Ideal S1x2048x1024 .f32) (W : FVec Ideal S1024x1024 .f32) : FVec Ideal S1x16x2048x64 .f32 :=
  transpose S1x16x2048x64 [0, 2, 1, 3] (shapeCast S1x2048x16x64 (Host.dotGeneral dot_S1x2048x1024_S1024x1024_S1x2048x1024_2_0_01_1_n_n none X W) shapeCasts_S1x2048x1024_S1x2048x16x64) transposes_S1x2048x16x64_S1x16x2048x64_0_2_1_3

/-- The scores: query heads against key heads, divided by the square root of 64. -/
def scoreArr (Q K : FVec Ideal S1x16x2048x64 .f32) : FVec Ideal S1x16x2048x2048 .f32 :=
  Host.divf (Host.dotGeneral dot_S1x16x2048x64_S1x16x2048x64_S1x16x2048x2048_3_3_2_2_01_01 none Q K) (broadcastInDim S1x16x2048x2048 ![] bcast_S_S1x16x2048x2048 (Host.sqrt (constant S_ .f32 0x42800000#32)))

/-- The sixteen greatest scores of each row, greatest first. -/
def topArr (S : FVec Ideal S1x16x2048x2048 .f32) : FVec Ideal S1x16x2048x16 .f32 :=
  (Host.topK S1x16x2048x16 3 (FloatOps.cmpfTotal .gt) S sliceFits_S1x16x2048x2048_S1x16x2048x16).1

/-- The scores with every entry below its row's sixteenth greatest replaced by −∞. -/
def maskArr (S : FVec Ideal S1x16x2048x2048 .f32) : FVec Ideal S1x16x2048x2048 .f32 :=
  select (cmpf .oge S (broadcastInDim S1x16x2048x2048 ![0, 1, 2, 3] bcast_S1x16x2048x1_S1x16x2048x2048_0_1_2_3 (extractStridedSlice S1x16x2048x1 ![0, 0, 0, 15] (topArr S) slices_S1x16x2048x16_S1x16x2048x1_0_0_0_15))) S (broadcastInDim S1x16x2048x2048 ![] bcast_S_S1x16x2048x2048 (id (constant S_ .f32 0xFF800000#32)))

/-- The exponential of every entry minus its row's maximum. -/
def expArr (M : FVec Ideal S1x16x2048x2048 .f32) : FVec Ideal S1x16x2048x2048 .f32 :=
  Host.exp (subf M (broadcastInDim S1x16x2048x2048 ![0, 1, 2, 3] bcast_S1x16x2048x1_S1x16x2048x2048_0_1_2_3 (broadcastInDim S1x16x2048x1 ![0, 1, 2] bcast_S1x16x2048_S1x16x2048x1_0_1_2 (maximumf (broadcastInDim S1x16x2048 ![] bcast_S_S1x16x2048 (constant S_ .f32 0xFF800000#32)) (Host.reduce FloatOps.maximumf M (constant S_ .f32 0xFF800000#32) reducesTo_S1x16x2048x2048_S1x16x2048_d3 h_S_)))))

/-- Every entry divided by its row's sum. -/
def normArr (E : FVec Ideal S1x16x2048x2048 .f32) : FVec Ideal S1x16x2048x2048 .f32 :=
  Host.divf E (broadcastInDim S1x16x2048x2048 ![0, 1, 2, 3] bcast_S1x16x2048x1_S1x16x2048x2048_0_1_2_3 (broadcastInDim S1x16x2048x1 ![0, 1, 2] bcast_S1x16x2048_S1x16x2048x1_0_1_2 (Host.reduceAdd E (constant S_ .f32 0x00000000#32) reducesTo_S1x16x2048x2048_S1x16x2048_d3 h_S_)))

/-- The probabilities times the value heads, the heads joined again, times the output weight. -/
def outArr (P : FVec Ideal S1x16x2048x2048 .f32) (U : FVec Ideal S1x16x2048x64 .f32) (Wo : FVec Ideal S1024x1024 .f32) : FVec Ideal S1x2048x1024 .f32 :=
  Host.dotGeneral dot_S1x2048x1024_S1024x1024_S1x2048x1024_2_0_01_1_n_n none (shapeCast S1x2048x1024 (transpose S1x2048x16x64 [0, 2, 1, 3] (Host.dotGeneral dot_S1x16x2048x2048_S1x16x2048x64_S1x16x2048x64_3_2_2_3_01_01 none P U) transposes_S1x16x2048x64_S1x2048x16x64_0_2_1_3) shapeCasts_S1x2048x16x64_S1x2048x1024) Wo

variable (m : (ℓ : Loc nD τ sig) → Buf (Elt Ideal) ℓ) (c : Dev nD)

/-- The reference's second result is this chain at the argument arrays. -/
theorem attn_eq : Value.res_main_v27 m c = normArr (expArr (maskArr (scoreArr
    (headsArr (m ((c : Thread nD τ).loc main_arg0)) (m ((c : Thread nD τ).loc main_arg3)))
    (headsArr (m ((c : Thread nD τ).loc main_arg1)) (m ((c : Thread nD τ).loc main_arg4)))))) := rfl

/-- The reference's first result is the output of its second. -/
theorem out_eq : Value.res_main_v31 m c = outArr (Value.res_main_v27 m c)
    (headsArr (m ((c : Thread nD τ).loc main_arg2)) (m ((c : Thread nD τ).loc main_arg5))) (m ((c : Thread nD τ).loc main_arg6)) := rfl

end Cert.RefTerms

end
-- ==== Proof.RefValue.lean ====
/- The reference's arrays read at an index. -/
module

public import proofs.«01_k».proof.Proof.RefTerms
public import proofs.«01_k».proof.Proof.Spec
public import proofs.«01_k».proof.Proof.Block
public import Idealize.ShloMosaic.Lib.Pointwise
public import Idealize.ShloMosaic.Lib.Pipeline.ValueKit

@[expose] public section

set_option maxRecDepth 16384

noncomputable section

namespace Cert.RefValue

open Cert.ReferenceIdeal Cert.ReferenceIdeal.Gen Cert.RefTerms Cert.Rows Cert.Block Idealize.ShloMosaic

/-- The heads at an index. -/
theorem heads_apply (X : FVec Ideal S1x2048x1024 .f32) (W : FVec Ideal S1024x1024 .f32) (z : Fin 1) (h : Fin 16) (i : Fin 2048) (e : Fin 64) :
    headsArr X W (ix4 z h i e) = Spec.heads (fun i d => X (ix3 0 i d)) (fun d n => W (ix2 d n)) h i e := by
  unfold headsArr Spec.heads Spec.lane
  pointwise

/-- Dividing by the square root of 64 is multiplying by one eighth. -/
theorem div_sqrt_sixtyfour (x : EReal) : Ideal.div x (Ideal.sqrt ((64 : ℝ) : EReal)) = x * (((1 : ℝ) / 8 : ℝ) : EReal) := by
  have h : Ideal.sqrt ((64 : ℝ) : EReal) = ((8 : ℝ) : EReal) := by
    have : Real.sqrt 64 = 8 := by rw [show (64 : ℝ) = 8 ^ 2 by norm_num]; exact Real.sqrt_sq (by norm_num)
    show (if (64 : ℝ) < 0 then (⊥ : EReal) else ((Real.sqrt 64 : ℝ) : EReal)) = _
    rw [if_neg (by norm_num), this]
  rw [h, Ideal.div, if_neg (by norm_num), ← EReal.coe_inv]
  norm_num

/-- The scores at an index. -/
theorem score_apply (Q K : FVec Ideal S1x16x2048x64 .f32) (z : Fin 1) (h : Fin 16) (i j : Fin 2048) :
    scoreArr Q K (ix4 z h i j) = Spec.scores (fun h i e => Q (ix4 z h i e)) (fun h i e => K (ix4 z h i e)) h i j := by
  unfold scoreArr Spec.scores
  pointwise
  rw [ofBits_sixtyfour, div_sqrt_sixtyfour]

/-- The `t`-th greatest score of a row: the row at the `t`-th place of its order. -/
theorem top_apply (S : FVec Ideal S1x16x2048x2048 .f32) (z : Fin 1) (h : Fin 16) (i : Fin 2048) (t : Fin 16) :
    topArr S (ix4 z h i t) = S (ix4 z h i (order (fun j => S (ix4 z h i j)) ⟨t.val, by omega⟩)) := by
  have along : ∀ (u k : Fin 2048), Shape.Idx.along (ix4 z h i u : S1x16x2048x2048.Idx) 3 k = ix4 z h i k := by
    intro u k; funext a; fin_cases a <;> rfl
  unfold topArr Host.topK Host.sort2 order
  obtain rfl : z = 0 := Subsingleton.elim _ _
  pointwise
  simp only [along]
  rfl

/-- The masked scores at an index. -/
theorem mask_apply (S : FVec Ideal S1x16x2048x2048 .f32) (z : Fin 1) (h : Fin 16) (i j : Fin 2048) :
    maskArr S (ix4 z h i j) = masked (topArr S (ix4 z h i 15)) (fun j => S (ix4 z h i j)) j := by
  obtain rfl : z = 0 := Subsingleton.elim _ _
  unfold maskArr masked
  pointwise
  rw [← ofBits_bot]; rfl

/-- A row-maximum over the last axis of a rank-four array, from a constant, is the fold of `max` along the row. -/
theorem reduceMax_apply {n0 n1 n2 n3 : ℕ} {u : Shape} (M : FVec Ideal ⟨4, ![n0, n1, n2, n3]⟩ .f32) (b : BitVec 32)
    (H : (⟨4, ![n0, n1, n2, n3]⟩ : Shape).ReducesTo [3] ⟨3, ![n0, n1, n2]⟩) (hu : 0 < u.numel) (z : Fin n0) (h : Fin n1) (i : Fin n2) :
    Host.reduce FloatOps.maximumf M (constant u .f32 b) H hu (ix3 z h i)
      = (Finset.univ : Finset (Fin n3)).fold max (Ideal.ofBits .f32 b) fun k => M (ix4 z h i k) := by
  rw [Host.reduce_eq_fold, H.fold_fiber_r4_a3]
  rfl

/-- The largest entry of a row is the fold of `max` along it from −∞. -/
theorem fold_eq_rowMax {n : ℕ} (s : Fin n → EReal) : (Finset.univ : Finset (Fin n)).fold max ⊥ s = rowMax s := rfl

/-- The exponential of an array minus a column of row-maxima, at an index. -/
theorem shifted_exp_apply (M : FVec Ideal S1x16x2048x2048 .f32) (R : FVec Ideal S1x16x2048 .f32) (h : Fin 16) (i j : Fin 2048) :
    Host.exp (subf M (broadcastInDim S1x16x2048x2048 ![0, 1, 2, 3] bcast_S1x16x2048x1_S1x16x2048x2048_0_1_2_3
      (broadcastInDim S1x16x2048x1 ![0, 1, 2] bcast_S1x16x2048_S1x16x2048x1_0_1_2
        (maximumf (broadcastInDim S1x16x2048 ![] bcast_S_S1x16x2048 (constant S_ .f32 0xFF800000#32)) R)))) (ix4 0 h i j)
      = Ideal.exp (M (ix4 0 h i j) - R (ix3 0 h i)) := by
  pointwise
  rw [ofBits_bot, max_eq_right bot_le]

/-- The exponentials at an index. -/
theorem exp_apply (M : FVec Ideal S1x16x2048x2048 .f32) (z : Fin 1) (h : Fin 16) (i j : Fin 2048) :
    expArr M (ix4 z h i j) = Ideal.exp (M (ix4 z h i j) - rowMax fun j => M (ix4 z h i j)) := by
  obtain rfl : z = 0 := Subsingleton.elim _ _
  have hr := reduceMax_apply M 0xFF800000#32 reducesTo_S1x16x2048x2048_S1x16x2048_d3 h_S_ 0 h i
  rw [ofBits_bot, fold_eq_rowMax] at hr
  unfold expArr
  rw [shifted_exp_apply, hr]

/-- The quotients at an index. -/
theorem norm_apply (E : FVec Ideal S1x16x2048x2048 .f32) (z : Fin 1) (h : Fin 16) (i j : Fin 2048) :
    normArr E (ix4 z h i j) = Ideal.div (E (ix4 z h i j)) (∑ k : Fin 2048, E (ix4 z h i k)) := by
  obtain rfl : z = 0 := Subsingleton.elim _ _
  unfold normArr
  pointwise

/-- The output at an index. -/
theorem out_apply (P : FVec Ideal S1x16x2048x2048 .f32) (U : FVec Ideal S1x16x2048x64 .f32) (Wo : FVec Ideal S1024x1024 .f32)
    (z : Fin 1) (i : Fin 2048) (n : Fin 1024) :
    outArr P U Wo (ix3 z i n) = Spec.out (fun h i j => P (ix4 z h i j)) (fun h i e => U (ix4 z h i e)) (fun d n => Wo (ix2 d n)) i n := by
  obtain rfl : z = 0 := Subsingleton.elim _ _
  unfold outArr Spec.out
  pointwise
  refine Fin.sum_divmod_congr (S := 64) fun d hh he => ?_
  congr 3
  unfold Spec.lane
  apply Fin.ext
  show d.val = d.val / 64 * 64 + d.val % 64
  omega

/-- The reference's second result, from its scores: each row's probabilities at its sixteenth greatest score. -/
theorem attn_apply (S : FVec Ideal S1x16x2048x2048 .f32) (z : Fin 1) (h : Fin 16) (i j : Fin 2048) :
    normArr (expArr (maskArr S)) (ix4 z h i j)
      = probs (S (ix4 z h i (order (fun j => S (ix4 z h i j)) 15))) (fun j => S (ix4 z h i j)) j := by
  have hM : ∀ j, maskArr S (ix4 z h i j)
      = masked (S (ix4 z h i (order (fun j => S (ix4 z h i j)) 15))) (fun j => S (ix4 z h i j)) j := by
    intro j
    rw [mask_apply, top_apply]
    rfl
  have hE : ∀ j, expArr (maskArr S) (ix4 z h i j)
      = weights (S (ix4 z h i (order (fun j => S (ix4 z h i j)) 15))) (fun j => S (ix4 z h i j)) j := by
    intro j
    rw [exp_apply, hM j, funext hM]
    exact exp_masked _ (fun j => S (ix4 z h i j)) _ le_rfl j
  rw [norm_apply]
  simp only [hE]
  rfl

end Cert.RefValue

end
-- ==== Proof.TopDistinct.lean ====
/- The precondition, read row by row, and what it gives: stripping finds the sixteenth greatest score. -/
module

public import proofs.«01_k».proof.Proof.Gen.Pre_top_scores_distinct
public import proofs.«01_k».proof.Proof.RefValue
public import Idealize.ShloMosaic.Lib.ReduceAll

@[expose] public section

set_option maxRecDepth 16384

noncomputable section

namespace Cert.TopDistinct

open Cert.ReferenceIdeal Cert.ReferenceIdeal.Gen Cert.RefTerms Cert.RefValue Cert.Rows Cert.Block Idealize.ShloMosaic

/-- The bits the precondition takes the conjunction of: each of a row's first fifteen top scores is above the next
    one, or the next one is −∞. -/
def distinctBits (T : FVec Ideal S1x16x2048x16 .f32) : IVec Cert.Pre_top_scores_distinct.S1x16x2048x15 1 :=
  ori (cmpf .ogt
      (extractStridedSlice Cert.Pre_top_scores_distinct.S1x16x2048x15 ![0, 0, 0, 0] T Cert.Pre_top_scores_distinct.Gen.slices_S1x16x2048x16_S1x16x2048x15_0_0_0_0)
      (extractStridedSlice Cert.Pre_top_scores_distinct.S1x16x2048x15 ![0, 0, 0, 1] T Cert.Pre_top_scores_distinct.Gen.slices_S1x16x2048x16_S1x16x2048x15_0_0_0_1))
    (cmpf .oeq
      (extractStridedSlice Cert.Pre_top_scores_distinct.S1x16x2048x15 ![0, 0, 0, 1] T Cert.Pre_top_scores_distinct.Gen.slices_S1x16x2048x16_S1x16x2048x15_0_0_0_1)
      (broadcastInDim Cert.Pre_top_scores_distinct.S1x16x2048x15 ![] Cert.Pre_top_scores_distinct.Gen.bcast_S_S1x16x2048x15 (constant S_ .f32 0xFF800000#32)))

/-- Of two bits, written from truth values, whose disjunction is set, one truth value holds. -/
theorem or_of_ori (x y : Bool) (e : IntOp.ori (BitVec.ofBool x) (BitVec.ofBool y) = 1#1) : x = true ∨ y = true := by
  revert e; cases x <;> cases y <;> decide

/-- One of those bits, as two comparisons. -/
theorem distinctBits_apply (T : FVec Ideal S1x16x2048x16 .f32) (h : Fin 16) (i : Fin 2048) (t : Fin 15) :
    distinctBits T (ix4 0 h i t)
      = IntOp.ori (Ideal.cmp .ogt (T (ix4 0 h i ⟨t.val, by omega⟩)) (T (ix4 0 h i ⟨t.val + 1, by omega⟩)))
          (Ideal.cmp .oeq (T (ix4 0 h i ⟨t.val + 1, by omega⟩)) ⊥) := by
  unfold distinctBits
  pointwise
  simp only [Nat.add_comm 1 t.val, ofBits_bot]

/-- Where the precondition holds, every bit is set. -/
theorem bits_of_pre (q k v : FVec Ideal S1x2048x1024 .f32) (wq wk wv wo : FVec Ideal S1024x1024 .f32)
    (H : Cert.Pre_top_scores_distinct.fn (F := Ideal) q k v wq wk wv wo = fun _ => 1#1) (h : Fin 16) (i : Fin 2048) (t : Fin 15) :
    distinctBits (topArr (scoreArr (headsArr q wq) (headsArr k wk))) (ix4 0 h i t) = 1#1 := by
  have e := congrFun H ix0
  dsimp only [Cert.Pre_top_scores_distinct.fn] at e
  have : Subsingleton Cert.Pre_top_scores_distinct.S_.Idx := ⟨fun a b => funext fun x => x.elim0⟩
  exact Host.reduce_andi_all _ _ _ _ _ e (ix4 0 h i t)

/-- A row of scores the precondition admits: listed from the greatest down, each of the first fifteen is above the
    next one, or the next one is −∞. -/
theorem row_distinct (S : FVec Ideal S1x16x2048x2048 .f32) (H : ∀ h i t, distinctBits (topArr S) (ix4 0 h i t) = 1#1)
    (h : Fin 16) (i : Fin 2048) (a b : Fin 2048) (ha : a.val < 15) (hb : b.val = a.val + 1) :
    S (ix4 0 h i (order (fun j => S (ix4 0 h i j)) b)) < S (ix4 0 h i (order (fun j => S (ix4 0 h i j)) a))
      ∨ S (ix4 0 h i (order (fun j => S (ix4 0 h i j)) b)) = ⊥ := by
  have e := H h i ⟨a.val, ha⟩
  rw [distinctBits_apply, top_apply, top_apply] at e
  have eb : b = ⟨a.val + 1, by omega⟩ := Fin.ext hb
  rw [eb]
  exact (or_of_ori _ _ e).imp of_decide_eq_true of_decide_eq_true

/-- On such a row the fifteen-times stripped maximum is the sixteenth greatest score. -/
theorem strip_threshold (s : Fin 2048 → EReal)
    (H : ∀ a b : Fin 2048, a.val < 15 → b.val = a.val + 1 → s (order s b) < s (order s a) ∨ s (order s b) = ⊥) :
    stripProbs s = probs (s (order s 15)) s := by
  unfold stripProbs
  rw [rowMax_strip_iterate s (order s) (order_surjective s) (order_anti s) 15 (by norm_num) H]
  rfl

end Cert.TopDistinct

end
-- ==== Proof.Equation.lean ====
/- The equation: where the precondition holds, the kernel's two results are the reference's. -/
module

public import proofs.«01_k».proof.Proof.KernelValue
public import proofs.«01_k».proof.Proof.TopDistinct

@[expose] public section

set_option maxRecDepth 16384

noncomputable section

namespace Cert.Equation

open Cert.ReferenceIdeal Cert.ReferenceIdeal.Gen Cert.RefTerms Cert.RefValue Cert.Rows Cert.Block Cert.TopDistinct
open Idealize.ShloMosaic

/-- A batch of one matrix as an index function. -/
abbrev rdX (X : FVec Ideal S1x2048x1024 .f32) : Fin 2048 → Fin 1024 → EReal := fun i d => X (ix3 0 i d)

/-- A weight matrix as an index function. -/
abbrev rdW (W : FVec Ideal S1024x1024 .f32) : Fin 1024 → Fin 1024 → EReal := fun d n => W (ix2 d n)

variable (q k v : FVec Ideal S1x2048x1024 .f32) (wq wk wv wo : FVec Ideal S1024x1024 .f32)

/-- The reference's scores are the layer's. -/
theorem ref_scores (h : Fin 16) (i j : Fin 2048) : scoreArr (headsArr q wq) (headsArr k wk) (ix4 0 h i j)
    = Spec.scores (Spec.heads (rdX q) (rdW wq)) (Spec.heads (rdX k) (rdW wk)) h i j := by
  rw [RefValue.score_apply]
  simp only [heads_apply]

/-- From scores whose rows are admitted, the reference's attention probabilities are those whose threshold is found
    by stripping. -/
theorem strip_attn (S : FVec Ideal S1x16x2048x2048 .f32) (H : ∀ h i t, distinctBits (topArr S) (ix4 0 h i t) = 1#1)
    (h : Fin 16) (i j : Fin 2048) :
    normArr (expArr (maskArr S)) (ix4 0 h i j) = stripProbs (fun j => S (ix4 0 h i j)) j :=
  (RefValue.attn_apply S 0 h i j).trans
    (congrFun (strip_threshold (fun j => S (ix4 0 h i j)) (row_distinct S H h i)) j).symm

/-- The reference's attention probabilities, under the precondition, are those whose threshold is found by stripping. -/
theorem ref_attn (H : Cert.Pre_top_scores_distinct.fn (F := Ideal) q k v wq wk wv wo = fun _ => 1#1) (h : Fin 16) (i j : Fin 2048) :
    normArr (expArr (maskArr (scoreArr (headsArr q wq) (headsArr k wk)))) (ix4 0 h i j)
      = stripProbs (Spec.scores (Spec.heads (rdX q) (rdW wq)) (Spec.heads (rdX k) (rdW wk)) h i) j := by
  rw [strip_attn _ (bits_of_pre q k v wq wk wv wo H) h i j, funext (ref_scores q k wq wk h i)]

/-- The reference's output, under the precondition, is the layer's output with those probabilities. -/
theorem ref_out (H : Cert.Pre_top_scores_distinct.fn (F := Ideal) q k v wq wk wv wo = fun _ => 1#1) (i : Fin 2048) (n : Fin 1024) :
    outArr (normArr (expArr (maskArr (scoreArr (headsArr q wq) (headsArr k wk))))) (headsArr v wv) wo (ix3 0 i n)
      = Spec.out (fun h i j => stripProbs (Spec.scores (Spec.heads (rdX q) (rdW wq)) (Spec.heads (rdX k) (rdW wk)) h i) j)
          (Spec.heads (rdX v) (rdW wv)) (rdW wo) i n := by
  rw [RefValue.out_apply]
  simp only [ref_attn q k v wq wk wv wo H, heads_apply]

section

variable (m : (ℓ : Loc Cert.Kernel.nD Cert.Kernel.τ Cert.Kernel.sig) → Buf (Elt Ideal) ℓ) (ρ : Dev Cert.Kernel.nD → PrngReg)
variable (m' : (ℓ : Loc nD τ sig) → Buf (Elt Ideal) ℓ) (c : Dev nD)

/-- The two memories hold the same seven arguments on a device. -/
def SameArgs : Prop :=
  m' ((c.tc : Thread nD τ).loc main_arg0) = m ((c.tc : Thread Cert.Kernel.nD Cert.Kernel.τ).loc Cert.Kernel.main_arg0)
  ∧ m' ((c.tc : Thread nD τ).loc main_arg1) = m ((c.tc : Thread Cert.Kernel.nD Cert.Kernel.τ).loc Cert.Kernel.main_arg1)
  ∧ m' ((c.tc : Thread nD τ).loc main_arg2) = m ((c.tc : Thread Cert.Kernel.nD Cert.Kernel.τ).loc Cert.Kernel.main_arg2)
  ∧ m' ((c.tc : Thread nD τ).loc main_arg3) = m ((c.tc : Thread Cert.Kernel.nD Cert.Kernel.τ).loc Cert.Kernel.main_arg3)
  ∧ m' ((c.tc : Thread nD τ).loc main_arg4) = m ((c.tc : Thread Cert.Kernel.nD Cert.Kernel.τ).loc Cert.Kernel.main_arg4)
  ∧ m' ((c.tc : Thread nD τ).loc main_arg5) = m ((c.tc : Thread Cert.Kernel.nD Cert.Kernel.τ).loc Cert.Kernel.main_arg5)
  ∧ m' ((c.tc : Thread nD τ).loc main_arg6) = m ((c.tc : Thread Cert.Kernel.nD Cert.Kernel.τ).loc Cert.Kernel.main_arg6)

/-- The precondition at the kernel's argument arrays on a device. -/
def PreAt : Prop := Cert.Pre_top_scores_distinct.fn (F := Ideal)
  (m ((c.tc : Thread Cert.Kernel.nD Cert.Kernel.τ).loc Cert.Kernel.main_arg0))
  (m ((c.tc : Thread Cert.Kernel.nD Cert.Kernel.τ).loc Cert.Kernel.main_arg1))
  (m ((c.tc : Thread Cert.Kernel.nD Cert.Kernel.τ).loc Cert.Kernel.main_arg2))
  (m ((c.tc : Thread Cert.Kernel.nD Cert.Kernel.τ).loc Cert.Kernel.main_arg3))
  (m ((c.tc : Thread Cert.Kernel.nD Cert.Kernel.τ).loc Cert.Kernel.main_arg4))
  (m ((c.tc : Thread Cert.Kernel.nD Cert.Kernel.τ).loc Cert.Kernel.main_arg5))
  (m ((c.tc : Thread Cert.Kernel.nD Cert.Kernel.τ).loc Cert.Kernel.main_arg6)) = fun _ => 1#1

/-- Two attention arrays of a batch of one agree when they agree at every head, row and column. -/
theorem ext_attn (A B : FVec Ideal S1x16x2048x2048 .f32) (H : ∀ h i j, A (ix4 0 h i j) = B (ix4 0 h i j)) : A = B := by
  funext y
  obtain ⟨z, h, i, j, rfl⟩ : ∃ (z : Fin 1) (h : Fin 16) (i j : Fin 2048), y = ix4 z h i j := ⟨y 0, y 1, y 2, y 3, eq_ix4 y⟩
  obtain rfl : z = 0 := Subsingleton.elim _ _
  exact H h i j

/-- Two output arrays of a batch of one agree when they agree at every row and column. -/
theorem ext_out (A B : FVec Ideal S1x2048x1024 .f32) (H : ∀ i n, A (ix3 0 i n) = B (ix3 0 i n)) : A = B := by
  funext y
  obtain ⟨z, i, n, rfl⟩ : ∃ (z : Fin 1) (i : Fin 2048) (n : Fin 1024), y = ix3 z i n := ⟨y 0, y 1, y 2, eq_ix3 y⟩
  obtain rfl : z = 0 := Subsingleton.elim _ _
  exact H i n

/-- The second results agree: the attention probabilities. -/
theorem attn_agree (H : PreAt m c) (A : SameArgs m m' c) :
    Value.res_main_v27 m' c = Cert.Kernel.Run.W9 m ρ c (Proc.devRef .tc Cert.Kernel.main_v14) := by
  obtain ⟨a0, a1, a2, a3, a4, a5, a6⟩ := A
  rw [attn_eq, a0, a1, a3, a4]
  refine ext_attn _ _ fun h i j => ?_
  exact (ref_attn _ _ _ _ _ _ _ H h i j).trans (Cert.KernelValue.attn_value m ρ c 0 h i j).symm

/-- The first results agree: the layer's output. -/
theorem out_agree (H : PreAt m c) (A : SameArgs m m' c) :
    Value.res_main_v31 m' c = Cert.Kernel.Run.W9 m ρ c (Proc.devRef .tc Cert.Kernel.main_v13) := by
  obtain ⟨a0, a1, a2, a3, a4, a5, a6⟩ := A
  rw [out_eq, attn_eq, a0, a1, a2, a3, a4, a5, a6]
  refine ext_out _ _ fun i n => ?_
  exact (ref_out _ _ _ _ _ _ _ H i n).trans (Cert.KernelValue.out_value m ρ c 0 i n).symm

end

end Cert.Equation

end
-- ==== Proof.lean ====
/- The claim, assembled: the frames of the kernel, of its reading over the extended reals and of the reference, and the
   equation of the kernel's two results with the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_top_scores_distinct
public import proofs.«01_k».proof.Proof.Gen.ReferenceIdeal.Run
public import proofs.«01_k».proof.Proof.KernelRun
public import proofs.«01_k».proof.Proof.Transfer
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel over the extended reals: terminates, keeps its arguments, ends with every semaphore counter at zero. -/
theorem frame_ideal : Cert.quiescent_KernelIdeal := fun m g _ => by
  rw [Cert.Transfer.θ_run_eq]
  exact Cert.Kernel.Run.frame (F := Ideal) m g

/-- The same of the inputs the precondition admits. -/
theorem frame_ideal_pre : Cert.quiescent_KernelIdeal_pre_top_scores_distinct := fun m g _ => frame_ideal m g trivial

/-- The reference: terminates, keeps its arguments, and has no semaphores. -/
theorem frame_reference : Cert.quiescent_ReferenceIdeal := fun m g _ =>
  (θ_run Cert.ReferenceIdeal.defs _ _).mono
    (fun r h => ⟨fun c => (h c).2.2, sem_eq_zero_of_no_sems (by decide) r.2⟩) (Cert.ReferenceIdeal.Value.run m g)

/-- The same of the inputs the precondition admits. -/
theorem frame_reference_pre : Cert.quiescent_ReferenceIdeal_pre_top_scores_distinct :=
  fun m g _ => frame_reference m g trivial

/-- Where the precondition holds, the kernel and the reference end with the same two results. -/
theorem results_agree : Cert.algebraic_KernelIdeal_ReferenceIdeal_pre_top_scores_distinct := fun m g m' g' H A => by
  refine ⟨fun c => Cert.Kernel.Run.W9 (F := Ideal) m g c (Proc.devRef .tc Cert.Kernel.main_v13),
    fun c => Cert.Kernel.Run.W9 (F := Ideal) m g c (Proc.devRef .tc Cert.Kernel.main_v14), ?_, ?_⟩
  · rw [Cert.Transfer.θ_run_eq]
    exact Cert.Kernel.Run.run_results (F := Ideal) m g
  · exact (θ_run Cert.ReferenceIdeal.defs _ _).mono
      (fun r h c => ⟨(h c).1.trans (Cert.Equation.out_agree m g m' c (H c) (A c)),
        (h c).2.1.trans (Cert.Equation.attn_agree m g m' c (H c) (A c)), (h c).2.2⟩) (Cert.ReferenceIdeal.Value.run m' g')

/-- Everything claimed. -/
theorem claim : Cert.Claim :=
  ⟨Cert.Kernel.Gen.facts, Cert.KernelIdeal.Gen.facts, Cert.ReferenceIdeal.Gen.facts, Cert.Pre_top_scores_distinct.Gen.facts,
    fun m g _ => Cert.Kernel.Run.frame m g, frame_ideal, frame_ideal_pre, frame_reference, frame_reference_pre, trivial,
    results_agree⟩

end Cert.Proof

end
